-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Channel (m : (ℓ : Loc Cert.Channel.nD Cert.Channel.τ Cert.Channel.sig) → Buf (Elt Bits) ℓ) : Prop :=
  True

def Pre_ChannelIdeal (m : (ℓ : Loc Cert.ChannelIdeal.nD Cert.ChannelIdeal.τ Cert.ChannelIdeal.sig) → Buf (Elt Ideal) ℓ) : Prop :=
  True

def Pre_ChannelRefIdeal (m : (ℓ : Loc Cert.ChannelRefIdeal.nD Cert.ChannelRefIdeal.τ Cert.ChannelRefIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11))
      ∧ r.2.sem = fun _ => 0)

def quiescent_Channel [hChannel : Cert.Channel.Facts] : Prop :=
  ∀ (m : (ℓ : Loc Cert.Channel.nD Cert.Channel.τ Cert.Channel.sig) → Buf (Elt Bits) ℓ) (g : Dev Cert.Channel.nD → PrngReg), Pre_Channel m →
    θ_run (Cert.Channel.defs (F := Bits)) (onTc (τ := Cert.Channel.τ) (Cert.Channel.main (F := Bits))) ⟨m, fun _ => 0, g⟩ (fun r => (∀ c : Dev Cert.Channel.nD,
      r.2.mem ((c.tc : Thread Cert.Channel.nD Cert.Channel.τ).loc Cert.Channel.main_arg0) = m ((c.tc : Thread Cert.Channel.nD Cert.Channel.τ).loc Cert.Channel.main_arg0)
      ∧ r.2.mem ((c.tc : Thread Cert.Channel.nD Cert.Channel.τ).loc Cert.Channel.main_arg1) = m ((c.tc : Thread Cert.Channel.nD Cert.Channel.τ).loc Cert.Channel.main_arg1)
      ∧ r.2.mem ((c.tc : Thread Cert.Channel.nD Cert.Channel.τ).loc Cert.Channel.main_arg2) = m ((c.tc : Thread Cert.Channel.nD Cert.Channel.τ).loc Cert.Channel.main_arg2)
      ∧ r.2.mem ((c.tc : Thread Cert.Channel.nD Cert.Channel.τ).loc Cert.Channel.main_arg3) = m ((c.tc : Thread Cert.Channel.nD Cert.Channel.τ).loc Cert.Channel.main_arg3)
      ∧ r.2.mem ((c.tc : Thread Cert.Channel.nD Cert.Channel.τ).loc Cert.Channel.main_arg4) = m ((c.tc : Thread Cert.Channel.nD Cert.Channel.τ).loc Cert.Channel.main_arg4)
      ∧ r.2.mem ((c.tc : Thread Cert.Channel.nD Cert.Channel.τ).loc Cert.Channel.main_arg5) = m ((c.tc : Thread Cert.Channel.nD Cert.Channel.τ).loc Cert.Channel.main_arg5)
      ∧ r.2.mem ((c.tc : Thread Cert.Channel.nD Cert.Channel.τ).loc Cert.Channel.main_arg6) = m ((c.tc : Thread Cert.Channel.nD Cert.Channel.τ).loc Cert.Channel.main_arg6)
      ∧ r.2.mem ((c.tc : Thread Cert.Channel.nD Cert.Channel.τ).loc Cert.Channel.main_arg7) = m ((c.tc : Thread Cert.Channel.nD Cert.Channel.τ).loc Cert.Channel.main_arg7)
      ∧ r.2.mem ((c.tc : Thread Cert.Channel.nD Cert.Channel.τ).loc Cert.Channel.main_arg8) = m ((c.tc : Thread Cert.Channel.nD Cert.Channel.τ).loc Cert.Channel.main_arg8)
      ∧ r.2.mem ((c.tc : Thread Cert.Channel.nD Cert.Channel.τ).loc Cert.Channel.main_arg9) = m ((c.tc : Thread Cert.Channel.nD Cert.Channel.τ).loc Cert.Channel.main_arg9)
      ∧ r.2.mem ((c.tc : Thread Cert.Channel.nD Cert.Channel.τ).loc Cert.Channel.main_arg10) = m ((c.tc : Thread Cert.Channel.nD Cert.Channel.τ).loc Cert.Channel.main_arg10)
      ∧ r.2.mem ((c.tc : Thread Cert.Channel.nD Cert.Channel.τ).loc Cert.Channel.main_arg11) = m ((c.tc : Thread Cert.Channel.nD Cert.Channel.τ).loc Cert.Channel.main_arg11)
      ∧ r.2.mem ((c.tc : Thread Cert.Channel.nD Cert.Channel.τ).loc Cert.Channel.main_arg12) = m ((c.tc : Thread Cert.Channel.nD Cert.Channel.τ).loc Cert.Channel.main_arg12)
      ∧ r.2.mem ((c.tc : Thread Cert.Channel.nD Cert.Channel.τ).loc Cert.Channel.main_arg13) = m ((c.tc : Thread Cert.Channel.nD Cert.Channel.τ).loc Cert.Channel.main_arg13)
      ∧ r.2.mem ((c.tc : Thread Cert.Channel.nD Cert.Channel.τ).loc Cert.Channel.main_arg14) = m ((c.tc : Thread Cert.Channel.nD Cert.Channel.τ).loc Cert.Channel.main_arg14)
      ∧ r.2.mem ((c.tc : Thread Cert.Channel.nD Cert.Channel.τ).loc Cert.Channel.main_arg15) = m ((c.tc : Thread Cert.Channel.nD Cert.Channel.τ).loc Cert.Channel.main_arg15)
      ∧ r.2.mem ((c.tc : Thread Cert.Channel.nD Cert.Channel.τ).loc Cert.Channel.main_arg16) = m ((c.tc : Thread Cert.Channel.nD Cert.Channel.τ).loc Cert.Channel.main_arg16)
      ∧ r.2.mem ((c.tc : Thread Cert.Channel.nD Cert.Channel.τ).loc Cert.Channel.main_arg17) = m ((c.tc : Thread Cert.Channel.nD Cert.Channel.τ).loc Cert.Channel.main_arg17)
      ∧ r.2.mem ((c.tc : Thread Cert.Channel.nD Cert.Channel.τ).loc Cert.Channel.main_arg18) = m ((c.tc : Thread Cert.Channel.nD Cert.Channel.τ).loc Cert.Channel.main_arg18))
      ∧ r.2.sem = fun _ => 0)

def quiescent_ChannelIdeal [hChannelIdeal : Cert.ChannelIdeal.Facts] : Prop :=
  ∀ (m : (ℓ : Loc Cert.ChannelIdeal.nD Cert.ChannelIdeal.τ Cert.ChannelIdeal.sig) → Buf (Elt Ideal) ℓ) (g : Dev Cert.ChannelIdeal.nD → PrngReg), Pre_ChannelIdeal m →
    θ_run (Cert.ChannelIdeal.defs (F := Ideal)) (onTc (τ := Cert.ChannelIdeal.τ) (Cert.ChannelIdeal.main (F := Ideal))) ⟨m, fun _ => 0, g⟩ (fun r => (∀ c : Dev Cert.ChannelIdeal.nD,
      r.2.mem ((c.tc : Thread Cert.ChannelIdeal.nD Cert.ChannelIdeal.τ).loc Cert.ChannelIdeal.main_arg0) = m ((c.tc : Thread Cert.ChannelIdeal.nD Cert.ChannelIdeal.τ).loc Cert.ChannelIdeal.main_arg0)
      ∧ r.2.mem ((c.tc : Thread Cert.ChannelIdeal.nD Cert.ChannelIdeal.τ).loc Cert.ChannelIdeal.main_arg1) = m ((c.tc : Thread Cert.ChannelIdeal.nD Cert.ChannelIdeal.τ).loc Cert.ChannelIdeal.main_arg1)
      ∧ r.2.mem ((c.tc : Thread Cert.ChannelIdeal.nD Cert.ChannelIdeal.τ).loc Cert.ChannelIdeal.main_arg2) = m ((c.tc : Thread Cert.ChannelIdeal.nD Cert.ChannelIdeal.τ).loc Cert.ChannelIdeal.main_arg2)
      ∧ r.2.mem ((c.tc : Thread Cert.ChannelIdeal.nD Cert.ChannelIdeal.τ).loc Cert.ChannelIdeal.main_arg3) = m ((c.tc : Thread Cert.ChannelIdeal.nD Cert.ChannelIdeal.τ).loc Cert.ChannelIdeal.main_arg3)
      ∧ r.2.mem ((c.tc : Thread Cert.ChannelIdeal.nD Cert.ChannelIdeal.τ).loc Cert.ChannelIdeal.main_arg4) = m ((c.tc : Thread Cert.ChannelIdeal.nD Cert.ChannelIdeal.τ).loc Cert.ChannelIdeal.main_arg4)
      ∧ r.2.mem ((c.tc : Thread Cert.ChannelIdeal.nD Cert.ChannelIdeal.τ).loc Cert.ChannelIdeal.main_arg5) = m ((c.tc : Thread Cert.ChannelIdeal.nD Cert.ChannelIdeal.τ).loc Cert.ChannelIdeal.main_arg5)
      ∧ r.2.mem ((c.tc : Thread Cert.ChannelIdeal.nD Cert.ChannelIdeal.τ).loc Cert.ChannelIdeal.main_arg6) = m ((c.tc : Thread Cert.ChannelIdeal.nD Cert.ChannelIdeal.τ).loc Cert.ChannelIdeal.main_arg6)
      ∧ r.2.mem ((c.tc : Thread Cert.ChannelIdeal.nD Cert.ChannelIdeal.τ).loc Cert.ChannelIdeal.main_arg7) = m ((c.tc : Thread Cert.ChannelIdeal.nD Cert.ChannelIdeal.τ).loc Cert.ChannelIdeal.main_arg7)
      ∧ r.2.mem ((c.tc : Thread Cert.ChannelIdeal.nD Cert.ChannelIdeal.τ).loc Cert.ChannelIdeal.main_arg8) = m ((c.tc : Thread Cert.ChannelIdeal.nD Cert.ChannelIdeal.τ).loc Cert.ChannelIdeal.main_arg8)
      ∧ r.2.mem ((c.tc : Thread Cert.ChannelIdeal.nD Cert.ChannelIdeal.τ).loc Cert.ChannelIdeal.main_arg9) = m ((c.tc : Thread Cert.ChannelIdeal.nD Cert.ChannelIdeal.τ).loc Cert.ChannelIdeal.main_arg9)
      ∧ r.2.mem ((c.tc : Thread Cert.ChannelIdeal.nD Cert.ChannelIdeal.τ).loc Cert.ChannelIdeal.main_arg10) = m ((c.tc : Thread Cert.ChannelIdeal.nD Cert.ChannelIdeal.τ).loc Cert.ChannelIdeal.main_arg10)
      ∧ r.2.mem ((c.tc : Thread Cert.ChannelIdeal.nD Cert.ChannelIdeal.τ).loc Cert.ChannelIdeal.main_arg11) = m ((c.tc : Thread Cert.ChannelIdeal.nD Cert.ChannelIdeal.τ).loc Cert.ChannelIdeal.main_arg11)
      ∧ r.2.mem ((c.tc : Thread Cert.ChannelIdeal.nD Cert.ChannelIdeal.τ).loc Cert.ChannelIdeal.main_arg12) = m ((c.tc : Thread Cert.ChannelIdeal.nD Cert.ChannelIdeal.τ).loc Cert.ChannelIdeal.main_arg12)
      ∧ r.2.mem ((c.tc : Thread Cert.ChannelIdeal.nD Cert.ChannelIdeal.τ).loc Cert.ChannelIdeal.main_arg13) = m ((c.tc : Thread Cert.ChannelIdeal.nD Cert.ChannelIdeal.τ).loc Cert.ChannelIdeal.main_arg13)
      ∧ r.2.mem ((c.tc : Thread Cert.ChannelIdeal.nD Cert.ChannelIdeal.τ).loc Cert.ChannelIdeal.main_arg14) = m ((c.tc : Thread Cert.ChannelIdeal.nD Cert.ChannelIdeal.τ).loc Cert.ChannelIdeal.main_arg14)
      ∧ r.2.mem ((c.tc : Thread Cert.ChannelIdeal.nD Cert.ChannelIdeal.τ).loc Cert.ChannelIdeal.main_arg15) = m ((c.tc : Thread Cert.ChannelIdeal.nD Cert.ChannelIdeal.τ).loc Cert.ChannelIdeal.main_arg15)
      ∧ r.2.mem ((c.tc : Thread Cert.ChannelIdeal.nD Cert.ChannelIdeal.τ).loc Cert.ChannelIdeal.main_arg16) = m ((c.tc : Thread Cert.ChannelIdeal.nD Cert.ChannelIdeal.τ).loc Cert.ChannelIdeal.main_arg16)
      ∧ r.2.mem ((c.tc : Thread Cert.ChannelIdeal.nD Cert.ChannelIdeal.τ).loc Cert.ChannelIdeal.main_arg17) = m ((c.tc : Thread Cert.ChannelIdeal.nD Cert.ChannelIdeal.τ).loc Cert.ChannelIdeal.main_arg17)
      ∧ r.2.mem ((c.tc : Thread Cert.ChannelIdeal.nD Cert.ChannelIdeal.τ).loc Cert.ChannelIdeal.main_arg18) = m ((c.tc : Thread Cert.ChannelIdeal.nD Cert.ChannelIdeal.τ).loc Cert.ChannelIdeal.main_arg18))
      ∧ r.2.sem = fun _ => 0)

def quiescent_ChannelRefIdeal [hChannelRefIdeal : Cert.ChannelRefIdeal.Facts] : Prop :=
  ∀ (m : (ℓ : Loc Cert.ChannelRefIdeal.nD Cert.ChannelRefIdeal.τ Cert.ChannelRefIdeal.sig) → Buf (Elt Ideal) ℓ) (g : Dev Cert.ChannelRefIdeal.nD → PrngReg), Pre_ChannelRefIdeal m →
    θ_run (Cert.ChannelRefIdeal.defs (F := Ideal)) (onTc (τ := Cert.ChannelRefIdeal.τ) (Cert.ChannelRefIdeal.main (F := Ideal))) ⟨m, fun _ => 0, g⟩ (fun r => (∀ c : Dev Cert.ChannelRefIdeal.nD,
      r.2.mem ((c.tc : Thread Cert.ChannelRefIdeal.nD Cert.ChannelRefIdeal.τ).loc Cert.ChannelRefIdeal.main_arg0) = m ((c.tc : Thread Cert.ChannelRefIdeal.nD Cert.ChannelRefIdeal.τ).loc Cert.ChannelRefIdeal.main_arg0)
      ∧ r.2.mem ((c.tc : Thread Cert.ChannelRefIdeal.nD Cert.ChannelRefIdeal.τ).loc Cert.ChannelRefIdeal.main_arg1) = m ((c.tc : Thread Cert.ChannelRefIdeal.nD Cert.ChannelRefIdeal.τ).loc Cert.ChannelRefIdeal.main_arg1)
      ∧ r.2.mem ((c.tc : Thread Cert.ChannelRefIdeal.nD Cert.ChannelRefIdeal.τ).loc Cert.ChannelRefIdeal.main_arg2) = m ((c.tc : Thread Cert.ChannelRefIdeal.nD Cert.ChannelRefIdeal.τ).loc Cert.ChannelRefIdeal.main_arg2)
      ∧ r.2.mem ((c.tc : Thread Cert.ChannelRefIdeal.nD Cert.ChannelRefIdeal.τ).loc Cert.ChannelRefIdeal.main_arg3) = m ((c.tc : Thread Cert.ChannelRefIdeal.nD Cert.ChannelRefIdeal.τ).loc Cert.ChannelRefIdeal.main_arg3)
      ∧ r.2.mem ((c.tc : Thread Cert.ChannelRefIdeal.nD Cert.ChannelRefIdeal.τ).loc Cert.ChannelRefIdeal.main_arg4) = m ((c.tc : Thread Cert.ChannelRefIdeal.nD Cert.ChannelRefIdeal.τ).loc Cert.ChannelRefIdeal.main_arg4)
      ∧ r.2.mem ((c.tc : Thread Cert.ChannelRefIdeal.nD Cert.ChannelRefIdeal.τ).loc Cert.ChannelRefIdeal.main_arg5) = m ((c.tc : Thread Cert.ChannelRefIdeal.nD Cert.ChannelRefIdeal.τ).loc Cert.ChannelRefIdeal.main_arg5)
      ∧ r.2.mem ((c.tc : Thread Cert.ChannelRefIdeal.nD Cert.ChannelRefIdeal.τ).loc Cert.ChannelRefIdeal.main_arg6) = m ((c.tc : Thread Cert.ChannelRefIdeal.nD Cert.ChannelRefIdeal.τ).loc Cert.ChannelRefIdeal.main_arg6)
      ∧ r.2.mem ((c.tc : Thread Cert.ChannelRefIdeal.nD Cert.ChannelRefIdeal.τ).loc Cert.ChannelRefIdeal.main_arg7) = m ((c.tc : Thread Cert.ChannelRefIdeal.nD Cert.ChannelRefIdeal.τ).loc Cert.ChannelRefIdeal.main_arg7)
      ∧ r.2.mem ((c.tc : Thread Cert.ChannelRefIdeal.nD Cert.ChannelRefIdeal.τ).loc Cert.ChannelRefIdeal.main_arg8) = m ((c.tc : Thread Cert.ChannelRefIdeal.nD Cert.ChannelRefIdeal.τ).loc Cert.ChannelRefIdeal.main_arg8)
      ∧ r.2.mem ((c.tc : Thread Cert.ChannelRefIdeal.nD Cert.ChannelRefIdeal.τ).loc Cert.ChannelRefIdeal.main_arg9) = m ((c.tc : Thread Cert.ChannelRefIdeal.nD Cert.ChannelRefIdeal.τ).loc Cert.ChannelRefIdeal.main_arg9)
      ∧ r.2.mem ((c.tc : Thread Cert.ChannelRefIdeal.nD Cert.ChannelRefIdeal.τ).loc Cert.ChannelRefIdeal.main_arg10) = m ((c.tc : Thread Cert.ChannelRefIdeal.nD Cert.ChannelRefIdeal.τ).loc Cert.ChannelRefIdeal.main_arg10)
      ∧ r.2.mem ((c.tc : Thread Cert.ChannelRefIdeal.nD Cert.ChannelRefIdeal.τ).loc Cert.ChannelRefIdeal.main_arg11) = m ((c.tc : Thread Cert.ChannelRefIdeal.nD Cert.ChannelRefIdeal.τ).loc Cert.ChannelRefIdeal.main_arg11)
      ∧ r.2.mem ((c.tc : Thread Cert.ChannelRefIdeal.nD Cert.ChannelRefIdeal.τ).loc Cert.ChannelRefIdeal.main_arg12) = m ((c.tc : Thread Cert.ChannelRefIdeal.nD Cert.ChannelRefIdeal.τ).loc Cert.ChannelRefIdeal.main_arg12)
      ∧ r.2.mem ((c.tc : Thread Cert.ChannelRefIdeal.nD Cert.ChannelRefIdeal.τ).loc Cert.ChannelRefIdeal.main_arg13) = m ((c.tc : Thread Cert.ChannelRefIdeal.nD Cert.ChannelRefIdeal.τ).loc Cert.ChannelRefIdeal.main_arg13)
      ∧ r.2.mem ((c.tc : Thread Cert.ChannelRefIdeal.nD Cert.ChannelRefIdeal.τ).loc Cert.ChannelRefIdeal.main_arg14) = m ((c.tc : Thread Cert.ChannelRefIdeal.nD Cert.ChannelRefIdeal.τ).loc Cert.ChannelRefIdeal.main_arg14)
      ∧ r.2.mem ((c.tc : Thread Cert.ChannelRefIdeal.nD Cert.ChannelRefIdeal.τ).loc Cert.ChannelRefIdeal.main_arg15) = m ((c.tc : Thread Cert.ChannelRefIdeal.nD Cert.ChannelRefIdeal.τ).loc Cert.ChannelRefIdeal.main_arg15)
      ∧ r.2.mem ((c.tc : Thread Cert.ChannelRefIdeal.nD Cert.ChannelRefIdeal.τ).loc Cert.ChannelRefIdeal.main_arg16) = m ((c.tc : Thread Cert.ChannelRefIdeal.nD Cert.ChannelRefIdeal.τ).loc Cert.ChannelRefIdeal.main_arg16)
      ∧ r.2.mem ((c.tc : Thread Cert.ChannelRefIdeal.nD Cert.ChannelRefIdeal.τ).loc Cert.ChannelRefIdeal.main_arg17) = m ((c.tc : Thread Cert.ChannelRefIdeal.nD Cert.ChannelRefIdeal.τ).loc Cert.ChannelRefIdeal.main_arg17)
      ∧ r.2.mem ((c.tc : Thread Cert.ChannelRefIdeal.nD Cert.ChannelRefIdeal.τ).loc Cert.ChannelRefIdeal.main_arg18) = m ((c.tc : Thread Cert.ChannelRefIdeal.nD Cert.ChannelRefIdeal.τ).loc Cert.ChannelRefIdeal.main_arg18))
      ∧ r.2.sem = fun _ => 0)

def preserves_Mixer_MixerIdeal : Prop :=
  True

def algebraic_MixerIdeal_MixerRefIdeal_on_exact_decay [hMixerIdeal : Cert.MixerIdeal.Facts] [hMixerRefIdeal : Cert.MixerRefIdeal.Facts] [hOn_exact_decay : Cert.On_exact_decay.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)) →
    ∃ (v0 : (c : Dev Cert.MixerIdeal.nD) → Buf (Elt Ideal) ((c.tc : Thread Cert.MixerIdeal.nD Cert.MixerIdeal.τ).loc Cert.MixerIdeal.main_v31_0)) (v1 : (c : Dev Cert.MixerIdeal.nD) → Buf (Elt Ideal) ((c.tc : Thread Cert.MixerIdeal.nD Cert.MixerIdeal.τ).loc Cert.MixerIdeal.main_v31_1)) (v2 : (c : Dev Cert.MixerIdeal.nD) → Buf (Elt Ideal) ((c.tc : Thread Cert.MixerIdeal.nD Cert.MixerIdeal.τ).loc Cert.MixerIdeal.main_v31_2)) (v3 : (c : Dev Cert.MixerIdeal.nD) → Buf (Elt Ideal) ((c.tc : Thread Cert.MixerIdeal.nD Cert.MixerIdeal.τ).loc Cert.MixerIdeal.main_v31_3)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          (∀ i : (⟨2, ![512, 1024]⟩ : Shape).Idx, (Cert.On_exact_decay.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11))).1 i = 1#1 → r.2.mem ((c.tc : Thread Cert.MixerIdeal.nD Cert.MixerIdeal.τ).loc Cert.MixerIdeal.main_v31_0) i = v0 c i)
          ∧ (∀ i : (⟨2, ![512, 3072]⟩ : Shape).Idx, (Cert.On_exact_decay.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11))).2.1 i = 1#1 → r.2.mem ((c.tc : Thread Cert.MixerIdeal.nD Cert.MixerIdeal.τ).loc Cert.MixerIdeal.main_v31_1) i = v1 c i)
          ∧ (∀ i : (⟨2, ![384, 1024]⟩ : Shape).Idx, (Cert.On_exact_decay.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11))).2.2.1 i = 1#1 → r.2.mem ((c.tc : Thread Cert.MixerIdeal.nD Cert.MixerIdeal.τ).loc Cert.MixerIdeal.main_v31_2) i = v2 c i)
          ∧ (∀ i : (⟨2, ![128, 1024]⟩ : Shape).Idx, (Cert.On_exact_decay.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11))).2.2.2 i = 1#1 → r.2.mem ((c.tc : Thread Cert.MixerIdeal.nD Cert.MixerIdeal.τ).loc Cert.MixerIdeal.main_v31_3) i = v3 c i)
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          (∀ i : (⟨2, ![512, 1024]⟩ : Shape).Idx, (Cert.On_exact_decay.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11))).1 i = 1#1 → r.2.mem ((c.tc : Thread Cert.MixerRefIdeal.nD Cert.MixerRefIdeal.τ).loc Cert.MixerRefIdeal.main_v128) i = v0 c i)
          ∧ (∀ i : (⟨2, ![512, 3072]⟩ : Shape).Idx, (Cert.On_exact_decay.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11))).2.1 i = 1#1 → r.2.mem ((c.tc : Thread Cert.MixerRefIdeal.nD Cert.MixerRefIdeal.τ).loc Cert.MixerRefIdeal.main_v132) i = v1 c i)
          ∧ (∀ i : (⟨2, ![384, 1024]⟩ : Shape).Idx, (Cert.On_exact_decay.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11))).2.2.1 i = 1#1 → r.2.mem ((c.tc : Thread Cert.MixerRefIdeal.nD Cert.MixerRefIdeal.τ).loc Cert.MixerRefIdeal.main_v135) i = v2 c i)
          ∧ (∀ i : (⟨2, ![128, 1024]⟩ : Shape).Idx, (Cert.On_exact_decay.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11))).2.2.2 i = 1#1 → r.2.mem ((c.tc : Thread Cert.MixerRefIdeal.nD Cert.MixerRefIdeal.τ).loc Cert.MixerRefIdeal.main_v126) i = v3 c i)
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11))

def preserves_Channel_ChannelIdeal : Prop :=
  True

def algebraic_ChannelIdeal_ChannelRefIdeal [hChannelIdeal : Cert.ChannelIdeal.Facts] [hChannelRefIdeal : Cert.ChannelRefIdeal.Facts] : Prop :=
  ∀ (m : (ℓ : Loc Cert.ChannelIdeal.nD Cert.ChannelIdeal.τ Cert.ChannelIdeal.sig) → Buf (Elt Ideal) ℓ) (g : Dev Cert.ChannelIdeal.nD → PrngReg)
    (m' : (ℓ : Loc Cert.ChannelRefIdeal.nD Cert.ChannelRefIdeal.τ Cert.ChannelRefIdeal.sig) → Buf (Elt Ideal) ℓ) (g' : Dev Cert.ChannelRefIdeal.nD → PrngReg), Pre_ChannelIdeal m →
    (∀ c : Dev Cert.ChannelIdeal.nD,
      m' ((c.tc : Thread Cert.ChannelRefIdeal.nD Cert.ChannelRefIdeal.τ).loc Cert.ChannelRefIdeal.main_arg0) = m ((c.tc : Thread Cert.ChannelIdeal.nD Cert.ChannelIdeal.τ).loc Cert.ChannelIdeal.main_arg0)
      ∧ m' ((c.tc : Thread Cert.ChannelRefIdeal.nD Cert.ChannelRefIdeal.τ).loc Cert.ChannelRefIdeal.main_arg1) = m ((c.tc : Thread Cert.ChannelIdeal.nD Cert.ChannelIdeal.τ).loc Cert.ChannelIdeal.main_arg1)
      ∧ m' ((c.tc : Thread Cert.ChannelRefIdeal.nD Cert.ChannelRefIdeal.τ).loc Cert.ChannelRefIdeal.main_arg2) = m ((c.tc : Thread Cert.ChannelIdeal.nD Cert.ChannelIdeal.τ).loc Cert.ChannelIdeal.main_arg2)
      ∧ m' ((c.tc : Thread Cert.ChannelRefIdeal.nD Cert.ChannelRefIdeal.τ).loc Cert.ChannelRefIdeal.main_arg3) = m ((c.tc : Thread Cert.ChannelIdeal.nD Cert.ChannelIdeal.τ).loc Cert.ChannelIdeal.main_arg3)
      ∧ m' ((c.tc : Thread Cert.ChannelRefIdeal.nD Cert.ChannelRefIdeal.τ).loc Cert.ChannelRefIdeal.main_arg4) = m ((c.tc : Thread Cert.ChannelIdeal.nD Cert.ChannelIdeal.τ).loc Cert.ChannelIdeal.main_arg4)
      ∧ m' ((c.tc : Thread Cert.ChannelRefIdeal.nD Cert.ChannelRefIdeal.τ).loc Cert.ChannelRefIdeal.main_arg5) = m ((c.tc : Thread Cert.ChannelIdeal.nD Cert.ChannelIdeal.τ).loc Cert.ChannelIdeal.main_arg5)
      ∧ m' ((c.tc : Thread Cert.ChannelRefIdeal.nD Cert.ChannelRefIdeal.τ).loc Cert.ChannelRefIdeal.main_arg6) = m ((c.tc : Thread Cert.ChannelIdeal.nD Cert.ChannelIdeal.τ).loc Cert.ChannelIdeal.main_arg6)
      ∧ m' ((c.tc : Thread Cert.ChannelRefIdeal.nD Cert.ChannelRefIdeal.τ).loc Cert.ChannelRefIdeal.main_arg7) = m ((c.tc : Thread Cert.ChannelIdeal.nD Cert.ChannelIdeal.τ).loc Cert.ChannelIdeal.main_arg7)
      ∧ m' ((c.tc : Thread Cert.ChannelRefIdeal.nD Cert.ChannelRefIdeal.τ).loc Cert.ChannelRefIdeal.main_arg8) = m ((c.tc : Thread Cert.ChannelIdeal.nD Cert.ChannelIdeal.τ).loc Cert.ChannelIdeal.main_arg8)
      ∧ m' ((c.tc : Thread Cert.ChannelRefIdeal.nD Cert.ChannelRefIdeal.τ).loc Cert.ChannelRefIdeal.main_arg9) = m ((c.tc : Thread Cert.ChannelIdeal.nD Cert.ChannelIdeal.τ).loc Cert.ChannelIdeal.main_arg9)
      ∧ m' ((c.tc : Thread Cert.ChannelRefIdeal.nD Cert.ChannelRefIdeal.τ).loc Cert.ChannelRefIdeal.main_arg10) = m ((c.tc : Thread Cert.ChannelIdeal.nD Cert.ChannelIdeal.τ).loc Cert.ChannelIdeal.main_arg10)
      ∧ m' ((c.tc : Thread Cert.ChannelRefIdeal.nD Cert.ChannelRefIdeal.τ).loc Cert.ChannelRefIdeal.main_arg11) = m ((c.tc : Thread Cert.ChannelIdeal.nD Cert.ChannelIdeal.τ).loc Cert.ChannelIdeal.main_arg11)
      ∧ m' ((c.tc : Thread Cert.ChannelRefIdeal.nD Cert.ChannelRefIdeal.τ).loc Cert.ChannelRefIdeal.main_arg12) = m ((c.tc : Thread Cert.ChannelIdeal.nD Cert.ChannelIdeal.τ).loc Cert.ChannelIdeal.main_arg12)
      ∧ m' ((c.tc : Thread Cert.ChannelRefIdeal.nD Cert.ChannelRefIdeal.τ).loc Cert.ChannelRefIdeal.main_arg13) = m ((c.tc : Thread Cert.ChannelIdeal.nD Cert.ChannelIdeal.τ).loc Cert.ChannelIdeal.main_arg13)
      ∧ m' ((c.tc : Thread Cert.ChannelRefIdeal.nD Cert.ChannelRefIdeal.τ).loc Cert.ChannelRefIdeal.main_arg14) = m ((c.tc : Thread Cert.ChannelIdeal.nD Cert.ChannelIdeal.τ).loc Cert.ChannelIdeal.main_arg14)
      ∧ m' ((c.tc : Thread Cert.ChannelRefIdeal.nD Cert.ChannelRefIdeal.τ).loc Cert.ChannelRefIdeal.main_arg15) = m ((c.tc : Thread Cert.ChannelIdeal.nD Cert.ChannelIdeal.τ).loc Cert.ChannelIdeal.main_arg15)
      ∧ m' ((c.tc : Thread Cert.ChannelRefIdeal.nD Cert.ChannelRefIdeal.τ).loc Cert.ChannelRefIdeal.main_arg16) = m ((c.tc : Thread Cert.ChannelIdeal.nD Cert.ChannelIdeal.τ).loc Cert.ChannelIdeal.main_arg16)
      ∧ m' ((c.tc : Thread Cert.ChannelRefIdeal.nD Cert.ChannelRefIdeal.τ).loc Cert.ChannelRefIdeal.main_arg17) = m ((c.tc : Thread Cert.ChannelIdeal.nD Cert.ChannelIdeal.τ).loc Cert.ChannelIdeal.main_arg17)
      ∧ m' ((c.tc : Thread Cert.ChannelRefIdeal.nD Cert.ChannelRefIdeal.τ).loc Cert.ChannelRefIdeal.main_arg18) = m ((c.tc : Thread Cert.ChannelIdeal.nD Cert.ChannelIdeal.τ).loc Cert.ChannelIdeal.main_arg18)) →
    ∃ (v0 : (c : Dev Cert.ChannelIdeal.nD) → Buf (Elt Ideal) ((c.tc : Thread Cert.ChannelIdeal.nD Cert.ChannelIdeal.τ).loc Cert.ChannelIdeal.main_v35_0)) (v1 : (c : Dev Cert.ChannelIdeal.nD) → Buf (Elt Ideal) ((c.tc : Thread Cert.ChannelIdeal.nD Cert.ChannelIdeal.τ).loc Cert.ChannelIdeal.main_v35_1)),
      θ_run (Cert.ChannelIdeal.defs (F := Ideal)) (onTc (τ := Cert.ChannelIdeal.τ) (Cert.ChannelIdeal.main (F := Ideal))) ⟨m, fun _ => 0, g⟩ (fun r => ∀ c : Dev Cert.ChannelIdeal.nD,
          r.2.mem ((c.tc : Thread Cert.ChannelIdeal.nD Cert.ChannelIdeal.τ).loc Cert.ChannelIdeal.main_v35_0) = v0 c
          ∧ r.2.mem ((c.tc : Thread Cert.ChannelIdeal.nD Cert.ChannelIdeal.τ).loc Cert.ChannelIdeal.main_v35_1) = v1 c
          ∧ r.2.mem ((c.tc : Thread Cert.ChannelIdeal.nD Cert.ChannelIdeal.τ).loc Cert.ChannelIdeal.main_arg0) = m ((c.tc : Thread Cert.ChannelIdeal.nD Cert.ChannelIdeal.τ).loc Cert.ChannelIdeal.main_arg0)
          ∧ r.2.mem ((c.tc : Thread Cert.ChannelIdeal.nD Cert.ChannelIdeal.τ).loc Cert.ChannelIdeal.main_arg1) = m ((c.tc : Thread Cert.ChannelIdeal.nD Cert.ChannelIdeal.τ).loc Cert.ChannelIdeal.main_arg1)
          ∧ r.2.mem ((c.tc : Thread Cert.ChannelIdeal.nD Cert.ChannelIdeal.τ).loc Cert.ChannelIdeal.main_arg2) = m ((c.tc : Thread Cert.ChannelIdeal.nD Cert.ChannelIdeal.τ).loc Cert.ChannelIdeal.main_arg2)
          ∧ r.2.mem ((c.tc : Thread Cert.ChannelIdeal.nD Cert.ChannelIdeal.τ).loc Cert.ChannelIdeal.main_arg3) = m ((c.tc : Thread Cert.ChannelIdeal.nD Cert.ChannelIdeal.τ).loc Cert.ChannelIdeal.main_arg3)
          ∧ r.2.mem ((c.tc : Thread Cert.ChannelIdeal.nD Cert.ChannelIdeal.τ).loc Cert.ChannelIdeal.main_arg4) = m ((c.tc : Thread Cert.ChannelIdeal.nD Cert.ChannelIdeal.τ).loc Cert.ChannelIdeal.main_arg4)
          ∧ r.2.mem ((c.tc : Thread Cert.ChannelIdeal.nD Cert.ChannelIdeal.τ).loc Cert.ChannelIdeal.main_arg5) = m ((c.tc : Thread Cert.ChannelIdeal.nD Cert.ChannelIdeal.τ).loc Cert.ChannelIdeal.main_arg5)
          ∧ r.2.mem ((c.tc : Thread Cert.ChannelIdeal.nD Cert.ChannelIdeal.τ).loc Cert.ChannelIdeal.main_arg6) = m ((c.tc : Thread Cert.ChannelIdeal.nD Cert.ChannelIdeal.τ).loc Cert.ChannelIdeal.main_arg6)
          ∧ r.2.mem ((c.tc : Thread Cert.ChannelIdeal.nD Cert.ChannelIdeal.τ).loc Cert.ChannelIdeal.main_arg7) = m ((c.tc : Thread Cert.ChannelIdeal.nD Cert.ChannelIdeal.τ).loc Cert.ChannelIdeal.main_arg7)
          ∧ r.2.mem ((c.tc : Thread Cert.ChannelIdeal.nD Cert.ChannelIdeal.τ).loc Cert.ChannelIdeal.main_arg8) = m ((c.tc : Thread Cert.ChannelIdeal.nD Cert.ChannelIdeal.τ).loc Cert.ChannelIdeal.main_arg8)
          ∧ r.2.mem ((c.tc : Thread Cert.ChannelIdeal.nD Cert.ChannelIdeal.τ).loc Cert.ChannelIdeal.main_arg9) = m ((c.tc : Thread Cert.ChannelIdeal.nD Cert.ChannelIdeal.τ).loc Cert.ChannelIdeal.main_arg9)
          ∧ r.2.mem ((c.tc : Thread Cert.ChannelIdeal.nD Cert.ChannelIdeal.τ).loc Cert.ChannelIdeal.main_arg10) = m ((c.tc : Thread Cert.ChannelIdeal.nD Cert.ChannelIdeal.τ).loc Cert.ChannelIdeal.main_arg10)
          ∧ r.2.mem ((c.tc : Thread Cert.ChannelIdeal.nD Cert.ChannelIdeal.τ).loc Cert.ChannelIdeal.main_arg11) = m ((c.tc : Thread Cert.ChannelIdeal.nD Cert.ChannelIdeal.τ).loc Cert.ChannelIdeal.main_arg11)
          ∧ r.2.mem ((c.tc : Thread Cert.ChannelIdeal.nD Cert.ChannelIdeal.τ).loc Cert.ChannelIdeal.main_arg12) = m ((c.tc : Thread Cert.ChannelIdeal.nD Cert.ChannelIdeal.τ).loc Cert.ChannelIdeal.main_arg12)
          ∧ r.2.mem ((c.tc : Thread Cert.ChannelIdeal.nD Cert.ChannelIdeal.τ).loc Cert.ChannelIdeal.main_arg13) = m ((c.tc : Thread Cert.ChannelIdeal.nD Cert.ChannelIdeal.τ).loc Cert.ChannelIdeal.main_arg13)
          ∧ r.2.mem ((c.tc : Thread Cert.ChannelIdeal.nD Cert.ChannelIdeal.τ).loc Cert.ChannelIdeal.main_arg14) = m ((c.tc : Thread Cert.ChannelIdeal.nD Cert.ChannelIdeal.τ).loc Cert.ChannelIdeal.main_arg14)
          ∧ r.2.mem ((c.tc : Thread Cert.ChannelIdeal.nD Cert.ChannelIdeal.τ).loc Cert.ChannelIdeal.main_arg15) = m ((c.tc : Thread Cert.ChannelIdeal.nD Cert.ChannelIdeal.τ).loc Cert.ChannelIdeal.main_arg15)
          ∧ r.2.mem ((c.tc : Thread Cert.ChannelIdeal.nD Cert.ChannelIdeal.τ).loc Cert.ChannelIdeal.main_arg16) = m ((c.tc : Thread Cert.ChannelIdeal.nD Cert.ChannelIdeal.τ).loc Cert.ChannelIdeal.main_arg16)
          ∧ r.2.mem ((c.tc : Thread Cert.ChannelIdeal.nD Cert.ChannelIdeal.τ).loc Cert.ChannelIdeal.main_arg17) = m ((c.tc : Thread Cert.ChannelIdeal.nD Cert.ChannelIdeal.τ).loc Cert.ChannelIdeal.main_arg17)
          ∧ r.2.mem ((c.tc : Thread Cert.ChannelIdeal.nD Cert.ChannelIdeal.τ).loc Cert.ChannelIdeal.main_arg18) = m ((c.tc : Thread Cert.ChannelIdeal.nD Cert.ChannelIdeal.τ).loc Cert.ChannelIdeal.main_arg18))
      ∧ θ_run (Cert.ChannelRefIdeal.defs (F := Ideal)) (onTc (τ := Cert.ChannelRefIdeal.τ) (Cert.ChannelRefIdeal.main (F := Ideal))) ⟨m', fun _ => 0, g'⟩ (fun r => ∀ c : Dev Cert.ChannelRefIdeal.nD,
          r.2.mem ((c.tc : Thread Cert.ChannelRefIdeal.nD Cert.ChannelRefIdeal.τ).loc Cert.ChannelRefIdeal.main_v180) = v0 c
          ∧ r.2.mem ((c.tc : Thread Cert.ChannelRefIdeal.nD Cert.ChannelRefIdeal.τ).loc Cert.ChannelRefIdeal.main_v182) = v1 c
          ∧ r.2.mem ((c.tc : Thread Cert.ChannelRefIdeal.nD Cert.ChannelRefIdeal.τ).loc Cert.ChannelRefIdeal.main_arg0) = m' ((c.tc : Thread Cert.ChannelRefIdeal.nD Cert.ChannelRefIdeal.τ).loc Cert.ChannelRefIdeal.main_arg0)
          ∧ r.2.mem ((c.tc : Thread Cert.ChannelRefIdeal.nD Cert.ChannelRefIdeal.τ).loc Cert.ChannelRefIdeal.main_arg1) = m' ((c.tc : Thread Cert.ChannelRefIdeal.nD Cert.ChannelRefIdeal.τ).loc Cert.ChannelRefIdeal.main_arg1)
          ∧ r.2.mem ((c.tc : Thread Cert.ChannelRefIdeal.nD Cert.ChannelRefIdeal.τ).loc Cert.ChannelRefIdeal.main_arg2) = m' ((c.tc : Thread Cert.ChannelRefIdeal.nD Cert.ChannelRefIdeal.τ).loc Cert.ChannelRefIdeal.main_arg2)
          ∧ r.2.mem ((c.tc : Thread Cert.ChannelRefIdeal.nD Cert.ChannelRefIdeal.τ).loc Cert.ChannelRefIdeal.main_arg3) = m' ((c.tc : Thread Cert.ChannelRefIdeal.nD Cert.ChannelRefIdeal.τ).loc Cert.ChannelRefIdeal.main_arg3)
          ∧ r.2.mem ((c.tc : Thread Cert.ChannelRefIdeal.nD Cert.ChannelRefIdeal.τ).loc Cert.ChannelRefIdeal.main_arg4) = m' ((c.tc : Thread Cert.ChannelRefIdeal.nD Cert.ChannelRefIdeal.τ).loc Cert.ChannelRefIdeal.main_arg4)
          ∧ r.2.mem ((c.tc : Thread Cert.ChannelRefIdeal.nD Cert.ChannelRefIdeal.τ).loc Cert.ChannelRefIdeal.main_arg5) = m' ((c.tc : Thread Cert.ChannelRefIdeal.nD Cert.ChannelRefIdeal.τ).loc Cert.ChannelRefIdeal.main_arg5)
          ∧ r.2.mem ((c.tc : Thread Cert.ChannelRefIdeal.nD Cert.ChannelRefIdeal.τ).loc Cert.ChannelRefIdeal.main_arg6) = m' ((c.tc : Thread Cert.ChannelRefIdeal.nD Cert.ChannelRefIdeal.τ).loc Cert.ChannelRefIdeal.main_arg6)
          ∧ r.2.mem ((c.tc : Thread Cert.ChannelRefIdeal.nD Cert.ChannelRefIdeal.τ).loc Cert.ChannelRefIdeal.main_arg7) = m' ((c.tc : Thread Cert.ChannelRefIdeal.nD Cert.ChannelRefIdeal.τ).loc Cert.ChannelRefIdeal.main_arg7)
          ∧ r.2.mem ((c.tc : Thread Cert.ChannelRefIdeal.nD Cert.ChannelRefIdeal.τ).loc Cert.ChannelRefIdeal.main_arg8) = m' ((c.tc : Thread Cert.ChannelRefIdeal.nD Cert.ChannelRefIdeal.τ).loc Cert.ChannelRefIdeal.main_arg8)
          ∧ r.2.mem ((c.tc : Thread Cert.ChannelRefIdeal.nD Cert.ChannelRefIdeal.τ).loc Cert.ChannelRefIdeal.main_arg9) = m' ((c.tc : Thread Cert.ChannelRefIdeal.nD Cert.ChannelRefIdeal.τ).loc Cert.ChannelRefIdeal.main_arg9)
          ∧ r.2.mem ((c.tc : Thread Cert.ChannelRefIdeal.nD Cert.ChannelRefIdeal.τ).loc Cert.ChannelRefIdeal.main_arg10) = m' ((c.tc : Thread Cert.ChannelRefIdeal.nD Cert.ChannelRefIdeal.τ).loc Cert.ChannelRefIdeal.main_arg10)
          ∧ r.2.mem ((c.tc : Thread Cert.ChannelRefIdeal.nD Cert.ChannelRefIdeal.τ).loc Cert.ChannelRefIdeal.main_arg11) = m' ((c.tc : Thread Cert.ChannelRefIdeal.nD Cert.ChannelRefIdeal.τ).loc Cert.ChannelRefIdeal.main_arg11)
          ∧ r.2.mem ((c.tc : Thread Cert.ChannelRefIdeal.nD Cert.ChannelRefIdeal.τ).loc Cert.ChannelRefIdeal.main_arg12) = m' ((c.tc : Thread Cert.ChannelRefIdeal.nD Cert.ChannelRefIdeal.τ).loc Cert.ChannelRefIdeal.main_arg12)
          ∧ r.2.mem ((c.tc : Thread Cert.ChannelRefIdeal.nD Cert.ChannelRefIdeal.τ).loc Cert.ChannelRefIdeal.main_arg13) = m' ((c.tc : Thread Cert.ChannelRefIdeal.nD Cert.ChannelRefIdeal.τ).loc Cert.ChannelRefIdeal.main_arg13)
          ∧ r.2.mem ((c.tc : Thread Cert.ChannelRefIdeal.nD Cert.ChannelRefIdeal.τ).loc Cert.ChannelRefIdeal.main_arg14) = m' ((c.tc : Thread Cert.ChannelRefIdeal.nD Cert.ChannelRefIdeal.τ).loc Cert.ChannelRefIdeal.main_arg14)
          ∧ r.2.mem ((c.tc : Thread Cert.ChannelRefIdeal.nD Cert.ChannelRefIdeal.τ).loc Cert.ChannelRefIdeal.main_arg15) = m' ((c.tc : Thread Cert.ChannelRefIdeal.nD Cert.ChannelRefIdeal.τ).loc Cert.ChannelRefIdeal.main_arg15)
          ∧ r.2.mem ((c.tc : Thread Cert.ChannelRefIdeal.nD Cert.ChannelRefIdeal.τ).loc Cert.ChannelRefIdeal.main_arg16) = m' ((c.tc : Thread Cert.ChannelRefIdeal.nD Cert.ChannelRefIdeal.τ).loc Cert.ChannelRefIdeal.main_arg16)
          ∧ r.2.mem ((c.tc : Thread Cert.ChannelRefIdeal.nD Cert.ChannelRefIdeal.τ).loc Cert.ChannelRefIdeal.main_arg17) = m' ((c.tc : Thread Cert.ChannelRefIdeal.nD Cert.ChannelRefIdeal.τ).loc Cert.ChannelRefIdeal.main_arg17)
          ∧ r.2.mem ((c.tc : Thread Cert.ChannelRefIdeal.nD Cert.ChannelRefIdeal.τ).loc Cert.ChannelRefIdeal.main_arg18) = m' ((c.tc : Thread Cert.ChannelRefIdeal.nD Cert.ChannelRefIdeal.τ).loc Cert.ChannelRefIdeal.main_arg18))

def Claim : Prop :=
  ∃ (hMixer : Cert.Mixer.Facts) (hMixerIdeal : Cert.MixerIdeal.Facts) (hMixerRefIdeal : Cert.MixerRefIdeal.Facts) (hChannel : Cert.Channel.Facts) (hChannelIdeal : Cert.ChannelIdeal.Facts) (hChannelRefIdeal : Cert.ChannelRefIdeal.Facts) (hOn_exact_decay : Cert.On_exact_decay.Facts),
    quiescent_Mixer (hMixer := hMixer)
    ∧ quiescent_MixerIdeal (hMixerIdeal := hMixerIdeal)
    ∧ quiescent_MixerRefIdeal (hMixerRefIdeal := hMixerRefIdeal)
    ∧ quiescent_Channel (hChannel := hChannel)
    ∧ quiescent_ChannelIdeal (hChannelIdeal := hChannelIdeal)
    ∧ quiescent_ChannelRefIdeal (hChannelRefIdeal := hChannelRefIdeal)
    ∧ preserves_Mixer_MixerIdeal
    ∧ algebraic_MixerIdeal_MixerRefIdeal_on_exact_decay (hMixerIdeal := hMixerIdeal) (hMixerRefIdeal := hMixerRefIdeal) (hOn_exact_decay := hOn_exact_decay)
    ∧ preserves_Channel_ChannelIdeal
    ∧ algebraic_ChannelIdeal_ChannelRefIdeal (hChannelIdeal := hChannelIdeal) (hChannelRefIdeal := hChannelRefIdeal)
-- ==== On_exact_decay.lean ====
abbrev S128x4x1024 : Shape := ⟨3, ![128, 4, 1024]⟩
abbrev S1x128x3x1024 : Shape := ⟨4, ![1, 128, 3, 1024]⟩
abbrev S1x128x1024 : Shape := ⟨3, ![1, 128, 1024]⟩
abbrev S1x1024 : Shape := ⟨2, ![1, 1024]⟩
abbrev S1x1024x4864 : Shape := ⟨3, ![1, 1024, 4864]⟩
abbrev S1x4x1024 : Shape := ⟨3, ![1, 4, 1024]⟩
abbrev S1x16x64x64 : Shape := ⟨4, ![1, 16, 64, 64]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x4864 : Shape := ⟨2, ![1024, 4864]⟩
abbrev S128x4x4864 : Shape := ⟨3, ![128, 4, 4864]⟩
abbrev S128x3x1024 : Shape := ⟨3, ![128, 3, 1024]⟩
abbrev S128x7x1024 : Shape := ⟨3, ![128, 7, 1024]⟩
abbrev S4x1024 : Shape := ⟨2, ![4, 1024]⟩
abbrev S128x4x16x64 : Shape := ⟨4, ![128, 4, 16, 64]⟩
abbrev S16x64x64 : Shape := ⟨3, ![16, 64, 64]⟩
abbrev S16x64x128x4 : Shape := ⟨4, ![16, 64, 128, 4]⟩
abbrev S128x1x1024 : Shape := ⟨3, ![128, 1, 1024]⟩
abbrev S128x1024 : Shape := ⟨2, ![128, 1024]⟩
abbrev S512x1024 : Shape := ⟨2, ![512, 1024]⟩
abbrev S512x3072 : Shape := ⟨2, ![512, 3072]⟩
abbrev S384x1024 : Shape := ⟨2, ![384, 1024]⟩

class Facts : Prop where
  shapeCasts_S1x1024_S1024 : S1x1024.ShapeCasts S1024
  reducesTo_S128x4x1024_S128x4_d2 : S128x4x1024.ReducesTo [2] S128x4
  h_S_ : 0 < S_.numel
  bcast_S128x4_S128x4x1_0_1 : S128x4.BroadcastsInDim S128x4x1 (![0, 1] : Fin 2 → Fin S128x4x1.rank)
  bcast_S_S128x4x1 : S_.BroadcastsInDim S128x4x1 (![] : Fin 0 → Fin S128x4x1.rank)
  bcast_S128x4x1_S128x4x1024_0_1_2 : S128x4x1.BroadcastsInDim S128x4x1024 (![0, 1, 2] : Fin 3 → Fin S128x4x1024.rank)
  bcast_S1024_S1x1x1024_2 : S1024.BroadcastsInDim S1x1x1024 (![2] : Fin 1 → Fin S1x1x1024.rank)
  bcast_S1x1x1024_S128x4x1024_0_1_2 : S1x1x1024.BroadcastsInDim S128x4x1024 (![0, 1, 2] : Fin 3 → Fin S128x4x1024.rank)
  shapeCasts_S1x1024x4864_S1024x4864 : S1x1024x4864.ShapeCasts S1024x4864
  shapeCasts_S1x128x3x1024_S128x3x1024 : S1x128x3x1024.ShapeCasts S128x3x1024
  slices_S128x4x4864_S128x4x1024_0_0_768 : S128x4x4864.Slices ![0, 0, 768] S128x4x1024
  concatenates_S128x3x1024_S128x4x1024_S128x7x1024_d1 : Shape.Concatenates [S128x3x1024, S128x4x1024] S128x7x1024 1
  shapeCasts_S1x4x1024_S4x1024 : S1x4x1024.ShapeCasts S4x1024
  slices_S4x1024_S1x1024_0_0 : S4x1024.Slices ![0, 0] S1x1024
  slices_S128x7x1024_S128x4x1024_0_0_0 : S128x7x1024.Slices ![0, 0, 0] S128x4x1024
  bcast_S_S128x4x1024 : S_.BroadcastsInDim S128x4x1024 (![] : Fin 0 → Fin S128x4x1024.rank)
  slices_S4x1024_S1x1024_1_0 : S4x1024.Slices ![1, 0] S1x1024
  slices_S128x7x1024_S128x4x1024_0_1_0 : S128x7x1024.Slices ![0, 1, 0] S128x4x1024
  slices_S4x1024_S1x1024_2_0 : S4x1024.Slices ![2, 0] S1x1024
  slices_S128x7x1024_S128x4x1024_0_2_0 : S128x7x1024.Slices ![0, 2, 0] S128x4x1024
  slices_S4x1024_S1x1024_3_0 : S4x1024.Slices ![3, 0] S1x1024
  slices_S128x7x1024_S128x4x1024_0_3_0 : S128x7x1024.Slices ![0, 3, 0] S128x4x1024
  shapeCasts_S128x4x1024_S128x4x16x64 : S128x4x1024.ShapeCasts S128x4x16x64
  shapeCasts_S1x16x64x64_S16x64x64 : S1x16x64x64.ShapeCasts S16x64x64
  transposes_S16x64x128x4_S128x4x16x64_2_3_0_1 : S16x64x128x4.Transposes [2, 3, 0, 1] S128x4x16x64
  shapeCasts_S128x4x16x64_S128x4x1024 : S128x4x16x64.ShapeCasts S128x4x1024
  bcast_S_S1024 : S_.BroadcastsInDim S1024 (![] : Fin 0 → Fin S1024.rank)
  slices_S128x4x1024_S128x1x1024_0_0_0 : S128x4x1024.Slices ![0, 0, 0] S128x1x1024
  shapeCasts_S128x1x1024_S128x1024 : S128x1x1024.ShapeCasts S128x1024
  slices_S128x4x1024_S128x1x1024_0_1_0 : S128x4x1024.Slices ![0, 1, 0] S128x1x1024
  slices_S128x4x1024_S128x1x1024_0_2_0 : S128x4x1024.Slices ![0, 2, 0] S128x1x1024
  slices_S128x4x1024_S128x1x1024_0_3_0 : S128x4x1024.Slices ![0, 3, 0] S128x1x1024
  concatenates_S128x1024_S128x1024_S128x1024_S128x1024_S512x1024_d0 : Shape.Concatenates [S128x1024, S128x1024, S128x1024, S128x1024] S512x1024 0
  bcast_S_S512x3072 : S_.BroadcastsInDim S512x3072 (![] : Fin 0 → Fin S512x3072.rank)
  bcast_S_S384x1024 : S_.BroadcastsInDim S384x1024 (![] : Fin 0 → Fin S384x1024.rank)
  dot_S128x4x1024_S1024x4864_S128x4x4864_2_0_01_1_n_n_wf : DotDims.WF S128x4x1024 S1024x4864 S128x4x4864 [2] [0] [0, 1] [1] [] []
  dot_S16x64x64_S128x4x16x64_S16x64x128x4_1_3_2_01_0_2_wf : DotDims.WF S16x64x64 S128x4x16x64 S16x64x128x4 [1] [3] [2] [0, 1] [0] [2]

variable [Facts]

def dot_S128x4x1024_S1024x4864_S128x4x4864_2_0_01_1_n_n : DotDims S128x4x1024 S1024x4864 S128x4x4864 where
  lhsContracting := [2]
  rhsContracting := [0]
  lhsNonContracting := [0, 1]
  rhsNonContracting := [1]
  lhsBatch := []
  rhsBatch := []
  wf := dot_S128x4x1024_S1024x4864_S128x4x4864_2_0_01_1_n_n_wf
def dot_S16x64x64_S128x4x16x64_S16x64x128x4_1_3_2_01_0_2 : DotDims S16x64x64 S128x4x16x64 S16x64x128x4 where
  lhsContracting := [1]
  rhsContracting := [3]
  lhsNonContracting := [2]
  rhsNonContracting := [0, 1]
  lhsBatch := [0]
  rhsBatch := [2]
  wf := dot_S16x64x64_S128x4x16x64_S16x64x128x4_1_3_2_01_0_2_wf
def fn_softplus {F : FTy → Type} [FloatOps F] (arg0 : FVec F S1024 .f32) : FVec F S1024 .f32 :=
  let cst : FVec F S_ .f32 := constant S_ .f32 0x00000000#32
  let v0 : FVec F S1024 .f32 := broadcastInDim S1024 ![] bcast_S_S1024 cst
  let v1 : FVec F S1024 .f32 := maximumf arg0 v0
  let v2 : FVec F S1024 .f32 := broadcastInDim S1024 ![] bcast_S_S1024 cst
  let v3 : FVec F S1024 .f32 := subf arg0 v2
  let v4 : IVec S1024 1 := cmpf .une v3 v3
  let v5 : FVec F S1024 .f32 := broadcastInDim S1024 ![] bcast_S_S1024 cst
  let v6 : FVec F S1024 .f32 := addf arg0 v5
  let v7 : FVec F S1024 .f32 := Host.absf v3
  let v8 : FVec F S1024 .f32 := Host.negf v7
  let v9 : FVec F S1024 .f32 := Host.exp v8
  let v10 : FVec F S1024 .f32 := Host.log1p v9
  let v11 : FVec F S1024 .f32 := addf v1 v10
  let v12 : FVec F S1024 .f32 := select v4 v6 v11
  v12

def fn_part4 {F : FTy → Type} [FloatOps F] (main_v80 : IVec S128x4x1024 1) (main_v85 : IVec S128x1024 1) (main_v87 : IVec S128x1024 1) : IVec S512x1024 1 × IVec S512x3072 1 × IVec S384x1024 1 × IVec S128x1024 1 :=
  let main_v88 : IVec S128x1024 1 := andi main_v85 main_v87
  let main_v89 : IVec S128x1x1024 1 := (extractStridedSlice S128x1x1024 ![0, 2, 0] · slices_S128x4x1024_S128x1x1024_0_2_0) main_v80
  let main_v90 : IVec S128x1024 1 := shapeCast S128x1024 main_v89 shapeCasts_S128x1x1024_S128x1024
  let main_v91 : IVec S128x1024 1 := andi main_v88 main_v90
  let main_v92 : IVec S128x1x1024 1 := (extractStridedSlice S128x1x1024 ![0, 3, 0] · slices_S128x4x1024_S128x1x1024_0_3_0) main_v80
  let main_v93 : IVec S128x1024 1 := shapeCast S128x1024 main_v92 shapeCasts_S128x1x1024_S128x1024
  let main_v94 : IVec S128x1024 1 := andi main_v91 main_v93
  let main_v95 : IVec S512x1024 1 := concatenate S512x1024 0 [⟨S128x1024, main_v85⟩, ⟨S128x1024, main_v88⟩, ⟨S128x1024, main_v91⟩, ⟨S128x1024, main_v94⟩] concatenates_S128x1024_S128x1024_S128x1024_S128x1024_S512x1024_d0
  let main_c : IVec S_ 1 := constantI S_ 1 1#1
  let main_v96 : IVec S512x3072 1 := broadcastInDim S512x3072 ![] bcast_S_S512x3072 main_c
  let main_c_7 : IVec S_ 1 := constantI S_ 1 1#1
  let main_v97 : IVec S384x1024 1 := broadcastInDim S384x1024 ![] bcast_S_S384x1024 main_c_7
  (main_v95, main_v96, main_v97, main_v94)

def fn_part3 {F : FTy → Type} [FloatOps F] (main_arg11 : FVec F S1x1024 .f32) (main_v66 : FVec F S128x4x1024 .f32) (main_cst_3 : FVec F S_ .f32) : IVec S512x1024 1 × IVec S512x3072 1 × IVec S384x1024 1 × IVec S128x1024 1 :=
  let main_v67 : FVec F S128x4x1024 .f32 := broadcastInDim S128x4x1024 ![] bcast_S_S128x4x1024 main_cst_3
  let main_v68 : FVec F S128x4x1024 .f32 := addf main_v67 main_v66
  let main_cst_4 : FVec F S_ .f32 := constant S_ .f32 0x3F800000#32
  let main_v69 : FVec F S128x4x1024 .f32 := broadcastInDim S128x4x1024 ![] bcast_S_S128x4x1024 main_cst_4
  let main_v70 : FVec F S128x4x1024 .f32 := Host.divf main_v69 main_v68
  let main_v71 : FVec F S1024 .f32 := shapeCast S1024 main_arg11 shapeCasts_S1x1024_S1024
  let main_v72 : FVec F S1024 .f32 := Host.negf main_v71
  let main_v73 : FVec F S1024 .f32 := fn_softplus (F := F) main_v72
  let main_cst_5 : FVec F S_ .f32 := constant S_ .f32 0xC1000000#32
  let main_v74 : FVec F S1024 .f32 := broadcastInDim S1024 ![] bcast_S_S1024 main_cst_5
  let main_v75 : FVec F S1024 .f32 := mulf main_v74 main_v73
  let main_v76 : FVec F S1x1x1024 .f32 := broadcastInDim S1x1x1024 ![2] bcast_S1024_S1x1x1024_2 main_v75
  let main_v77 : FVec F S128x4x1024 .f32 := broadcastInDim S128x4x1024 ![0, 1, 2] bcast_S1x1x1024_S128x4x1024_0_1_2 main_v76
  let main_v78 : FVec F S128x4x1024 .f32 := mulf main_v77 main_v70
  let main_cst_6 : FVec F S_ .f32 := constant S_ .f32 0xBA000000#32
  let main_v79 : FVec F S128x4x1024 .f32 := broadcastInDim S128x4x1024 ![] bcast_S_S128x4x1024 main_cst_6
  let main_v80 : IVec S128x4x1024 1 := cmpf .ole main_v78 main_v79
  let main_v81 : IVec S128x1x1024 1 := (extractStridedSlice S128x1x1024 ![0, 0, 0] · slices_S128x4x1024_S128x1x1024_0_0_0) main_v80
  let main_v82 : IVec S128x1024 1 := shapeCast S128x1024 main_v81 shapeCasts_S128x1x1024_S128x1024
  let main_v83 : IVec S128x1x1024 1 := (extractStridedSlice S128x1x1024 ![0, 0, 0] · slices_S128x4x1024_S128x1x1024_0_0_0) main_v80
  let main_v84 : IVec S128x1024 1 := shapeCast S128x1024 main_v83 shapeCasts_S128x1x1024_S128x1024
  let main_v85 : IVec S128x1024 1 := andi main_v82 main_v84
  let main_v86 : IVec S128x1x1024 1 := (extractStridedSlice S128x1x1024 ![0, 1, 0] · slices_S128x4x1024_S128x1x1024_0_1_0) main_v80
  let main_v87 : IVec S128x1024 1 := shapeCast S128x1024 main_v86 shapeCasts_S128x1x1024_S128x1024
  fn_part4 (F := F) main_v80 main_v85 main_v87

def fn_part2 {F : FTy → Type} [FloatOps F] (main_arg5 : FVec F S1x4x1024 .f32) (main_arg7 : FVec F S1x16x64x64 .f32) (main_arg8 : FVec F S1x1024 .f32) (main_arg11 : FVec F S1x1024 .f32) (main_v18 : FVec F S128x7x1024 .f32) (main_v19 : FVec F S1024 .f32) (main_v36 : FVec F S128x4x1024 .f32) (main_v43 : FVec F S128x4x1024 .f32) : IVec S512x1024 1 × IVec S512x3072 1 × IVec S384x1024 1 × IVec S128x1024 1 :=
  let main_v44 : FVec F S128x4x1024 .f32 := addf main_v36 main_v43
  let main_v45 : FVec F S4x1024 .f32 := shapeCast S4x1024 main_arg5 shapeCasts_S1x4x1024_S4x1024
  let main_v46 : FVec F S1x1024 .f32 := (extractStridedSlice S1x1024 ![3, 0] · slices_S4x1024_S1x1024_3_0) main_v45
  let main_v47 : FVec F S1024 .f32 := shapeCast S1024 main_v46 shapeCasts_S1x1024_S1024
  let main_v48 : FVec F S128x4x1024 .f32 := (extractStridedSlice S128x4x1024 ![0, 3, 0] · slices_S128x7x1024_S128x4x1024_0_3_0) main_v18
  let main_v49 : FVec F S1x1x1024 .f32 := broadcastInDim S1x1x1024 ![2] bcast_S1024_S1x1x1024_2 main_v47
  let main_v50 : FVec F S128x4x1024 .f32 := broadcastInDim S128x4x1024 ![0, 1, 2] bcast_S1x1x1024_S128x4x1024_0_1_2 main_v49
  let main_v51 : FVec F S128x4x1024 .f32 := mulf main_v50 main_v48
  let main_v52 : FVec F S128x4x1024 .f32 := addf main_v44 main_v51
  let main_v53 : FVec F S1x1x1024 .f32 := broadcastInDim S1x1x1024 ![2] bcast_S1024_S1x1x1024_2 main_v19
  let main_v54 : FVec F S128x4x1024 .f32 := broadcastInDim S128x4x1024 ![0, 1, 2] bcast_S1x1x1024_S128x4x1024_0_1_2 main_v53
  let main_v55 : FVec F S128x4x1024 .f32 := addf main_v54 main_v52
  let main_v56 : FVec F S128x4x16x64 .f32 := shapeCast S128x4x16x64 main_v55 shapeCasts_S128x4x1024_S128x4x16x64
  let main_v57 : FVec F S16x64x64 .f32 := shapeCast S16x64x64 main_arg7 shapeCasts_S1x16x64x64_S16x64x64
  let main_v58 : FVec F S16x64x128x4 .f32 := (fun l r => Host.dotGeneral dot_S16x64x64_S128x4x16x64_S16x64x128x4_1_3_2_01_0_2 none l r) main_v57 main_v56
  let main_v59 : FVec F S128x4x16x64 .f32 := (transpose S128x4x16x64 [2, 3, 0, 1] · transposes_S16x64x128x4_S128x4x16x64_2_3_0_1) main_v58
  let main_v60 : FVec F S128x4x1024 .f32 := shapeCast S128x4x1024 main_v59 shapeCasts_S128x4x16x64_S128x4x1024
  let main_v61 : FVec F S1024 .f32 := shapeCast S1024 main_arg8 shapeCasts_S1x1024_S1024
  let main_v62 : FVec F S1x1x1024 .f32 := broadcastInDim S1x1x1024 ![2] bcast_S1024_S1x1x1024_2 main_v61
  let main_v63 : FVec F S128x4x1024 .f32 := broadcastInDim S128x4x1024 ![0, 1, 2] bcast_S1x1x1024_S128x4x1024_0_1_2 main_v62
  let main_v64 : FVec F S128x4x1024 .f32 := addf main_v60 main_v63
  let main_v65 : FVec F S128x4x1024 .f32 := Host.negf main_v64
  let main_v66 : FVec F S128x4x1024 .f32 := Host.exp main_v65
  let main_cst_3 : FVec F S_ .f32 := constant S_ .f32 0x3F800000#32
  fn_part3 (F := F) main_arg11 main_v66 main_cst_3

def fn_part1 {F : FTy → Type} [FloatOps F] (main_arg5 : FVec F S1x4x1024 .f32) (main_arg7 : FVec F S1x16x64x64 .f32) (main_arg8 : FVec F S1x1024 .f32) (main_arg11 : FVec F S1x1024 .f32) (main_v18 : FVec F S128x7x1024 .f32) (main_v19 : FVec F S1024 .f32) (main_v20 : FVec F S4x1024 .f32) : IVec S512x1024 1 × IVec S512x3072 1 × IVec S384x1024 1 × IVec S128x1024 1 :=
  let main_v21 : FVec F S1x1024 .f32 := (extractStridedSlice S1x1024 ![0, 0] · slices_S4x1024_S1x1024_0_0) main_v20
  let main_v22 : FVec F S1024 .f32 := shapeCast S1024 main_v21 shapeCasts_S1x1024_S1024
  let main_v23 : FVec F S128x4x1024 .f32 := (extractStridedSlice S128x4x1024 ![0, 0, 0] · slices_S128x7x1024_S128x4x1024_0_0_0) main_v18
  let main_v24 : FVec F S1x1x1024 .f32 := broadcastInDim S1x1x1024 ![2] bcast_S1024_S1x1x1024_2 main_v22
  let main_v25 : FVec F S128x4x1024 .f32 := broadcastInDim S128x4x1024 ![0, 1, 2] bcast_S1x1x1024_S128x4x1024_0_1_2 main_v24
  let main_v26 : FVec F S128x4x1024 .f32 := mulf main_v25 main_v23
  let main_cst_2 : FVec F S_ .f32 := constant S_ .f32 0x00000000#32
  let main_v27 : FVec F S128x4x1024 .f32 := broadcastInDim S128x4x1024 ![] bcast_S_S128x4x1024 main_cst_2
  let main_v28 : FVec F S128x4x1024 .f32 := addf main_v27 main_v26
  let main_v29 : FVec F S4x1024 .f32 := shapeCast S4x1024 main_arg5 shapeCasts_S1x4x1024_S4x1024
  let main_v30 : FVec F S1x1024 .f32 := (extractStridedSlice S1x1024 ![1, 0] · slices_S4x1024_S1x1024_1_0) main_v29
  let main_v31 : FVec F S1024 .f32 := shapeCast S1024 main_v30 shapeCasts_S1x1024_S1024
  let main_v32 : FVec F S128x4x1024 .f32 := (extractStridedSlice S128x4x1024 ![0, 1, 0] · slices_S128x7x1024_S128x4x1024_0_1_0) main_v18
  let main_v33 : FVec F S1x1x1024 .f32 := broadcastInDim S1x1x1024 ![2] bcast_S1024_S1x1x1024_2 main_v31
  let main_v34 : FVec F S128x4x1024 .f32 := broadcastInDim S128x4x1024 ![0, 1, 2] bcast_S1x1x1024_S128x4x1024_0_1_2 main_v33
  let main_v35 : FVec F S128x4x1024 .f32 := mulf main_v34 main_v32
  let main_v36 : FVec F S128x4x1024 .f32 := addf main_v28 main_v35
  let main_v37 : FVec F S4x1024 .f32 := shapeCast S4x1024 main_arg5 shapeCasts_S1x4x1024_S4x1024
  let main_v38 : FVec F S1x1024 .f32 := (extractStridedSlice S1x1024 ![2, 0] · slices_S4x1024_S1x1024_2_0) main_v37
  let main_v39 : FVec F S1024 .f32 := shapeCast S1024 main_v38 shapeCasts_S1x1024_S1024
  let main_v40 : FVec F S128x4x1024 .f32 := (extractStridedSlice S128x4x1024 ![0, 2, 0] · slices_S128x7x1024_S128x4x1024_0_2_0) main_v18
  let main_v41 : FVec F S1x1x1024 .f32 := broadcastInDim S1x1x1024 ![2] bcast_S1024_S1x1x1024_2 main_v39
  let main_v42 : FVec F S128x4x1024 .f32 := broadcastInDim S128x4x1024 ![0, 1, 2] bcast_S1x1x1024_S128x4x1024_0_1_2 main_v41
  let main_v43 : FVec F S128x4x1024 .f32 := mulf main_v42 main_v40
  fn_part2 (F := F) main_arg5 main_arg7 main_arg8 main_arg11 main_v18 main_v19 main_v36 main_v43

def fn {F : FTy → Type} [FloatOps F] (main_arg0 : FVec F S128x4x1024 .f32) (main_arg1 : FVec F S1x128x3x1024 .f32) (main_arg2 : FVec F S1x128x1024 .f32) (main_arg3 : FVec F S1x1024 .f32) (main_arg4 : FVec F S1x1024x4864 .f32) (main_arg5 : FVec F S1x4x1024 .f32) (main_arg6 : FVec F S1x1024 .f32) (main_arg7 : FVec F S1x16x64x64 .f32) (main_arg8 : FVec F S1x1024 .f32) (main_arg9 : FVec F S1x16x64x64 .f32) (main_arg10 : FVec F S1x1024 .f32) (main_arg11 : FVec F S1x1024 .f32) : IVec S512x1024 1 × IVec S512x3072 1 × IVec S384x1024 1 × IVec S128x1024 1 :=
  let main_v0 : FVec F S1024 .f32 := shapeCast S1024 main_arg3 shapeCasts_S1x1024_S1024
  let main_v1 : FVec F S128x4x1024 .f32 := mulf main_arg0 main_arg0
  let main_cst : FVec F S_ .f32 := constant S_ .f32 0x00000000#32
  let main_v2 : FVec F S128x4 .f32 := (fun x v => Host.reduceAdd x v reducesTo_S128x4x1024_S128x4_d2 h_S_) main_v1 main_cst
  let main_v3 : FVec F S128x4x1 .f32 := broadcastInDim S128x4x1 ![0, 1] bcast_S128x4_S128x4x1_0_1 main_v2
  let main_cst_0 : FVec F S_ .f32 := constant S_ .f32 0x44800000#32
  let main_v4 : FVec F S128x4x1 .f32 := broadcastInDim S128x4x1 ![] bcast_S_S128x4x1 main_cst_0
  let main_v5 : FVec F S128x4x1 .f32 := Host.divf main_v3 main_v4
  let main_cst_1 : FVec F S_ .f32 := constant S_ .f32 0x358637BD#32
  let main_v6 : FVec F S128x4x1 .f32 := broadcastInDim S128x4x1 ![] bcast_S_S128x4x1 main_cst_1
  let main_v7 : FVec F S128x4x1 .f32 := addf main_v5 main_v6
  let main_v8 : FVec F S128x4x1 .f32 := Host.rsqrt main_v7
  let main_v9 : FVec F S128x4x1024 .f32 := broadcastInDim S128x4x1024 ![0, 1, 2] bcast_S128x4x1_S128x4x1024_0_1_2 main_v8
  let main_v10 : FVec F S128x4x1024 .f32 := mulf main_arg0 main_v9
  let main_v11 : FVec F S1x1x1024 .f32 := broadcastInDim S1x1x1024 ![2] bcast_S1024_S1x1x1024_2 main_v0
  let main_v12 : FVec F S128x4x1024 .f32 := broadcastInDim S128x4x1024 ![0, 1, 2] bcast_S1x1x1024_S128x4x1024_0_1_2 main_v11
  let main_v13 : FVec F S128x4x1024 .f32 := mulf main_v10 main_v12
  let main_v14 : FVec F S1024x4864 .f32 := shapeCast S1024x4864 main_arg4 shapeCasts_S1x1024x4864_S1024x4864
  let main_v15 : FVec F S128x4x4864 .f32 := (fun l r => Host.dotGeneral dot_S128x4x1024_S1024x4864_S128x4x4864_2_0_01_1_n_n none l r) main_v13 main_v14
  let main_v16 : FVec F S128x3x1024 .f32 := shapeCast S128x3x1024 main_arg1 shapeCasts_S1x128x3x1024_S128x3x1024
  let main_v17 : FVec F S128x4x1024 .f32 := (extractStridedSlice S128x4x1024 ![0, 0, 768] · slices_S128x4x4864_S128x4x1024_0_0_768) main_v15
  let main_v18 : FVec F S128x7x1024 .f32 := (fun a b => concatenate S128x7x1024 1 [⟨S128x3x1024, a⟩, ⟨S128x4x1024, b⟩] concatenates_S128x3x1024_S128x4x1024_S128x7x1024_d1) main_v16 main_v17
  let main_v19 : FVec F S1024 .f32 := shapeCast S1024 main_arg6 shapeCasts_S1x1024_S1024
  let main_v20 : FVec F S4x1024 .f32 := shapeCast S4x1024 main_arg5 shapeCasts_S1x4x1024_S4x1024
  fn_part1 (F := F) main_arg5 main_arg7 main_arg8 main_arg11 main_v18 main_v19 main_v20
-- ==== Mixer.lean ====
abbrev S128x4x1024 : Shape := ⟨3, ![128, 4, 1024]⟩
abbrev S1x128x3x1024 : Shape := ⟨4, ![1, 128, 3, 1024]⟩
abbrev S1x128x1024 : Shape := ⟨3, ![1, 128, 1024]⟩
abbrev S1x1024 : Shape := ⟨2, ![1, 1024]⟩
abbrev S1x1024x4864 : Shape := ⟨3, ![1, 1024, 4864]⟩
abbrev S1x4x1024 : Shape := ⟨3, ![1, 4, 1024]⟩
abbrev S1x16x64x64 : Shape := ⟨4, ![1, 16, 64, 64]⟩
abbrev S4x4 : Shape := ⟨2, ![4, 4]⟩
abbrev S1x1x4x1x4x1 : Shape := ⟨6, ![1, 1, 4, 1, 4, 1]⟩
abbrev S1024 : Shape := ⟨1, ![1024]⟩
abbrev S1024x4864 : Shape := ⟨2, ![1024, 4864]⟩
abbrev S4x1024 : Shape := ⟨2, ![4, 1024]⟩
abbrev S16x64x64 : Shape := ⟨3, ![16, 64, 64]⟩
abbrev S2x16x64x64 : Shape := ⟨4, ![2, 16, 64, 64]⟩
abbrev S2x4x4x64x64 : Shape := ⟨5, ![2, 4, 4, 64, 64]⟩
abbrev S2x4x4x64x1x64 : Shape := ⟨6, ![2, 4, 4, 64, 1, 64]⟩
abbrev S_ : Shape := ⟨0, ![]⟩
abbrev S2x4x4x64x4x64 : Shape := ⟨6, ![2, 4, 4, 64, 4, 64]⟩
abbrev S4x4x64x2x4x64 : Shape := ⟨6, ![4, 4, 64, 2, 4, 64]⟩
abbrev S4x256x512 : Shape := ⟨3, ![4, 256, 512]⟩
abbrev S4x128x1024 : Shape := ⟨3, ![4, 128, 1024]⟩
abbrev S512x1024 : Shape := ⟨2, ![512, 1024]⟩
abbrev S128x3x1024 : Shape := ⟨3, ![128, 3, 1024]⟩
abbrev S3x128x1024 : Shape := ⟨3, ![3, 128, 1024]⟩
abbrev S384x1024 : Shape := ⟨2, ![384, 1024]⟩
abbrev S128x1024 : Shape := ⟨2, ![128, 1024]⟩
abbrev S512x3072 : Shape := ⟨2, ![512, 3072]⟩
abbrev S512 : Shape := ⟨1, ![512]⟩
abbrev S512x1 : Shape := ⟨2, ![512, 1]⟩
abbrev S1024x1024 : Shape := ⟨2, ![1024, 1024]⟩
abbrev S512x256 : Shape := ⟨2, ![512, 256]⟩
abbrev S1x256x512 : Shape := ⟨3, ![1, 256, 512]⟩
abbrev S256x512 : Shape := ⟨2, ![256, 512]⟩
abbrev S512x512 : Shape := ⟨2, ![512, 512]⟩
abbrev S1024x3072 : Shape := ⟨2, ![1024, 3072]⟩

abbrev nBuf : Space → Nat
  | .hbm => 53
  | .vmem => 15
  | .smem => 0
  | _ => 0

abbrev bufTy : (tb : Table) → Fin (tcTables nBuf tb) → BufTy
  | .hbm, ⟨0, _⟩ => ⟨S128x4x1024, .f32⟩
  | .hbm, ⟨1, _⟩ => ⟨S1x128x3x1024, .f32⟩
  | .hbm, ⟨2, _⟩ => ⟨S1x128x1024, .f32⟩
  | .hbm, ⟨3, _⟩ => ⟨S1x1024, .f32⟩
  | .hbm, ⟨4, _⟩ => ⟨S1x1024x4864, .f32⟩
  | .hbm, ⟨5, _⟩ => ⟨S1x4x1024, .f32⟩
  | .hbm, ⟨6, _⟩ => ⟨S1x1024, .f32⟩
  | .hbm, ⟨7, _⟩ => ⟨S1x16x64x64, .f32⟩
  | .hbm, ⟨8, _⟩ => ⟨S1x1024, .f32⟩
  | .hbm, ⟨9, _⟩ => ⟨S1x16x64x64, .f32⟩
  | .hbm, ⟨10, _⟩ => ⟨S1x1024, .f32⟩
  | .hbm, ⟨11, _⟩ => ⟨S1x1024, .f32⟩
  | .hbm, ⟨12, _⟩ => ⟨S4x4, .i1⟩
  | .hbm, ⟨13, _⟩ => ⟨S1x1x4x1x4x1, .i1⟩
  | .hbm, ⟨14, _⟩ => ⟨S1024, .f32⟩
  | .hbm, ⟨15, _⟩ => ⟨S1x1024, .f32⟩
  | .hbm, ⟨16, _⟩ => ⟨S1024x4864, .f32⟩
  | .hbm, ⟨17, _⟩ => ⟨S1024x4864, .bf16⟩
  | .hbm, ⟨18, _⟩ => ⟨S4x1024, .f32⟩
  | .hbm, ⟨19, _⟩ => ⟨S1024, .f32⟩
  | .hbm, ⟨20, _⟩ => ⟨S1x1024, .f32⟩
  | .hbm, ⟨21, _⟩ => ⟨S16x64x64, .f32⟩
  | .hbm, ⟨22, _⟩ => ⟨S16x64x64, .f32⟩
  | .hbm, ⟨23, _⟩ => ⟨S1x16x64x64, .f32⟩
  | .hbm, ⟨24, _⟩ => ⟨S1x16x64x64, .f32⟩
  | .hbm, ⟨25, _⟩ => ⟨S2x16x64x64, .f32⟩
  | .hbm, ⟨26, _⟩ => ⟨S2x4x4x64x64, .f32⟩
  | .hbm, ⟨27, _⟩ => ⟨S2x4x4x64x1x64, .f32⟩
  | .hbm, ⟨28, _⟩ => ⟨S_, .f32⟩
  | .hbm, ⟨29, _⟩ => ⟨S_, .f32⟩
  | .hbm, ⟨30, _⟩ => ⟨S2x4x4x64x4x64, .i1⟩
  | .hbm, ⟨31, _⟩ => ⟨S2x4x4x64x4x64, .f32⟩
  | .hbm, ⟨32, _⟩ => ⟨S2x4x4x64x4x64, .f32⟩
  | .hbm, ⟨33, _⟩ => ⟨S2x4x4x64x4x64, .f32⟩
  | .hbm, ⟨34, _⟩ => ⟨S4x4x64x2x4x64, .f32⟩
  | .hbm, ⟨35, _⟩ => ⟨S4x256x512, .f32⟩
  | .hbm, ⟨36, _⟩ => ⟨S4x256x512, .bf16⟩
  | .hbm, ⟨37, _⟩ => ⟨S1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S4x128x1024, .f32⟩
  | .hbm, ⟨44, _⟩ => ⟨S512x1024, .f32⟩
  | .hbm, ⟨45, _⟩ => ⟨S128x3x1024, .f32⟩
  | .hbm, ⟨46, _⟩ => ⟨S3x128x1024, .f32⟩
  | .hbm, ⟨47, _⟩ => ⟨S384x1024, .f32⟩
  | .hbm, ⟨48, _⟩ => ⟨S128x1024, .f32⟩
  | .hbm, ⟨49, _⟩ => ⟨S512x1024, .bf16⟩
  | .hbm, ⟨50, _⟩ => ⟨S512x3072, .bf16⟩
  | .hbm, ⟨51, _⟩ => ⟨S384x1024, .f32⟩
  | .hbm, ⟨52, _⟩ => ⟨S128x1024, .f32⟩
  | .local _ .vmem, ⟨0, _⟩ => ⟨S512x1024, .f32⟩
  | .local _ .vmem, ⟨1, _⟩ => ⟨S384x1024, .f32⟩
  | .local _ .vmem, ⟨2, _⟩ => ⟨S128x1024, .f32⟩
  | .local _ .vmem, ⟨3, _⟩ => ⟨S1x1024, .f32⟩
  | .local _ .vmem, ⟨4, _⟩ => ⟨S1024x4864, .bf16⟩
  | .local _ .vmem, ⟨5, _⟩ => ⟨S4x1024, .f32⟩
  | .local _ .vmem, ⟨6, _⟩ => ⟨S1x1024, .f32⟩
  | .local _ .vmem, ⟨7, _⟩ => ⟨S4x256x512, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S512x3072, .bf16⟩
  | .local _ .vmem, ⟨13, _⟩ => ⟨S384x1024, .f32⟩
  | .local _ .vmem, ⟨14, _⟩ => ⟨S128x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev main_v31_2 : Ref sig .tc := ⟨.hbm, 51, rfl⟩
abbrev main_v31_3 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4864 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixerRefIdeal.lean ====
abbrev S128x4x1024 : Shape := ⟨3, ![128, 4, 1024]⟩
abbrev S1x128x3x1024 : Shape := ⟨4, ![1, 128, 3, 1024]⟩
abbrev S1x128x1024 : Shape := ⟨3, ![1, 128, 1024]⟩
abbrev S1x1024 : Shape := ⟨2, ![1, 1024]⟩
abbrev S1x1024x4864 : Shape := ⟨3, ![1, 1024, 4864]⟩
abbrev S1x4x1024 : Shape := ⟨3, ![1, 4, 1024]⟩
abbrev S1x16x64x64 : Shape := ⟨4, ![1, 16, 64, 64]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x4864 : Shape := ⟨2, ![1024, 4864]⟩
abbrev S128x4x4864 : Shape := ⟨3, ![128, 4, 4864]⟩
abbrev S128x3x1024 : Shape := ⟨3, ![128, 3, 1024]⟩
abbrev S128x7x1024 : Shape := ⟨3, ![128, 7, 1024]⟩
abbrev S4x1024 : Shape := ⟨2, ![4, 1024]⟩
abbrev S128x4x16x64 : Shape := ⟨4, ![128, 4, 16, 64]⟩
abbrev S16x64x64 : Shape := ⟨3, ![16, 64, 64]⟩
abbrev S16x64x128x4 : Shape := ⟨4, ![16, 64, 128, 4]⟩
abbrev S128x1024 : Shape := ⟨2, ![128, 1024]⟩
abbrev S128x1x1024 : Shape := ⟨3, ![128, 1, 1024]⟩
abbrev S512x1024 : Shape := ⟨2, ![512, 1024]⟩
abbrev S128x4x3072 : Shape := ⟨3, ![128, 4, 3072]⟩
abbrev S4x128x3072 : Shape := ⟨3, ![4, 128, 3072]⟩
abbrev S512x3072 : Shape := ⟨2, ![512, 3072]⟩
abbrev S3x128x1024 : Shape := ⟨3, ![3, 128, 1024]⟩
abbrev S384x1024 : Shape := ⟨2, ![384, 1024]⟩

abbrev nBuf : Space → Nat
  | .hbm => 171
  | .vmem => 0
  | .smem => 0
  | _ => 0

abbrev hbmTy0_0 (i : Nat) : BufTy := match i % 128 with
  | 0 => ⟨S128x4x1024, .f32⟩
  | 1 => ⟨S1x128x3x1024, .f32⟩
  | 2 => ⟨S1x128x1024, .f32⟩
  | 3 => ⟨S1x1024, .f32⟩
  | 4 => ⟨S1x1024x4864, .f32⟩
  | 5 => ⟨S1x4x1024, .f32⟩
  | 6 => ⟨S1x1024, .f32⟩
  | 7 => ⟨S1x16x64x64, .f32⟩
  | 8 => ⟨S1x1024, .f32⟩
  | 9 => ⟨S1x16x64x64, .f32⟩
  | 10 => ⟨S1x1024, .f32⟩
  | 11 => ⟨S1x1024, .f32⟩
  | 12 => ⟨S1024, .f32⟩
  | 13 => ⟨S128x4x1024, .f32⟩
  | 14 => ⟨S_, .f32⟩
  | 15 => ⟨S128x4, .f32⟩
  | 16 => ⟨S128x4x1, .f32⟩
  | 17 => ⟨S_, .f32⟩
  | 18 => ⟨S128x4x1, .f32⟩
  | 19 => ⟨S128x4x1, .f32⟩
  | 20 => ⟨S_, .f32⟩
  | 21 => ⟨S128x4x1, .f32⟩
  | 22 => ⟨S128x4x1, .f32⟩
  | 23 => ⟨S128x4x1, .f32⟩
  | 24 => ⟨S128x4x1024, .f32⟩
  | 25 => ⟨S128x4x1024, .f32⟩
  | 26 => ⟨S1x1x1024, .f32⟩
  | 27 => ⟨S128x4x1024, .f32⟩
  | 28 => ⟨S128x4x1024, .f32⟩
  | 29 => ⟨S1024x4864, .f32⟩
  | 30 => ⟨S128x4x4864, .f32⟩
  | 31 => ⟨S128x3x1024, .f32⟩
  | 32 => ⟨S128x4x1024, .f32⟩
  | 33 => ⟨S128x7x1024, .f32⟩
  | 34 => ⟨S1024, .f32⟩
  | 35 => ⟨S4x1024, .f32⟩
  | 36 => ⟨S1x1024, .f32⟩
  | 37 => ⟨S1024, .f32⟩
  | 38 => ⟨S128x4x1024, .f32⟩
  | 39 => ⟨S1x1x1024, .f32⟩
  | 40 => ⟨S128x4x1024, .f32⟩
  | 41 => ⟨S128x4x1024, .f32⟩
  | 42 => ⟨S_, .f32⟩
  | 43 => ⟨S128x4x1024, .f32⟩
  | 44 => ⟨S128x4x1024, .f32⟩
  | 45 => ⟨S4x1024, .f32⟩
  | 46 => ⟨S1x1024, .f32⟩
  | 47 => ⟨S1024, .f32⟩
  | 48 => ⟨S128x4x1024, .f32⟩
  | 49 => ⟨S1x1x1024, .f32⟩
  | 50 => ⟨S128x4x1024, .f32⟩
  | 51 => ⟨S128x4x1024, .f32⟩
  | 52 => ⟨S128x4x1024, .f32⟩
  | 53 => ⟨S4x1024, .f32⟩
  | 54 => ⟨S1x1024, .f32⟩
  | 55 => ⟨S1024, .f32⟩
  | 56 => ⟨S128x4x1024, .f32⟩
  | 57 => ⟨S1x1x1024, .f32⟩
  | 58 => ⟨S128x4x1024, .f32⟩
  | 59 => ⟨S128x4x1024, .f32⟩
  | 60 => ⟨S128x4x1024, .f32⟩
  | 61 => ⟨S4x1024, .f32⟩
  | 62 => ⟨S1x1024, .f32⟩
  | 63 => ⟨S1024, .f32⟩
  | 64 => ⟨S128x4x1024, .f32⟩
  | 65 => ⟨S1x1x1024, .f32⟩
  | 66 => ⟨S128x4x1024, .f32⟩
  | 67 => ⟨S128x4x1024, .f32⟩
  | 68 => ⟨S128x4x1024, .f32⟩
  | 69 => ⟨S1x1x1024, .f32⟩
  | 70 => ⟨S128x4x1024, .f32⟩
  | 71 => ⟨S128x4x1024, .f32⟩
  | 72 => ⟨S128x4x16x64, .f32⟩
  | 73 => ⟨S16x64x64, .f32⟩
  | 74 => ⟨S16x64x128x4, .f32⟩
  | 75 => ⟨S128x4x16x64, .f32⟩
  | 76 => ⟨S128x4x1024, .f32⟩
  | 77 => ⟨S1024, .f32⟩
  | 78 => ⟨S1x1x1024, .f32⟩
  | 79 => ⟨S128x4x1024, .f32⟩
  | 80 => ⟨S128x4x1024, .f32⟩
  | 81 => ⟨S128x4x1024, .f32⟩
  | 82 => ⟨S128x4x1024, .f32⟩
  | 83 => ⟨S_, .f32⟩
  | 84 => ⟨S128x4x1024, .f32⟩
  | 85 => ⟨S128x4x1024, .f32⟩
  | 86 => ⟨S_, .f32⟩
  | 87 => ⟨S128x4x1024, .f32⟩
  | 88 => ⟨S128x4x1024, .f32⟩
  | 89 => ⟨S1024, .f32⟩
  | 90 => ⟨S1024, .f32⟩
  | 91 => ⟨S_, .f32⟩
  | 92 => ⟨S1024, .f32⟩
  | 93 => ⟨S1024, .f32⟩
  | 94 => ⟨S1024, .f32⟩
  | 95 => ⟨S1024, .f32⟩
  | 96 => ⟨S1024, .i1⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S_, .f32⟩
  | 106 => ⟨S1024, .f32⟩
  | 107 => ⟨S1024, .f32⟩
  | 108 => ⟨S1x1x1024, .f32⟩
  | 109 => ⟨S128x4x1024, .f32⟩
  | 110 => ⟨S128x4x1024, .f32⟩
  | 111 => ⟨S128x4x16x64, .f32⟩
  | 112 => ⟨S16x64x64, .f32⟩
  | 113 => ⟨S16x64x128x4, .f32⟩
  | 114 => ⟨S128x4x16x64, .f32⟩
  | 115 => ⟨S128x4x1024, .f32⟩
  | 116 => ⟨S1024, .f32⟩
  | 117 => ⟨S1x1x1024, .f32⟩
  | 118 => ⟨S128x4x1024, .f32⟩
  | 119 => ⟨S128x4x1024, .f32⟩
  | 120 => ⟨S128x4x1024, .f32⟩
  | 121 => ⟨S128x4x1024, .f32⟩
  | 122 => ⟨S_, .f32⟩
  | 123 => ⟨S128x4x1024, .f32⟩
  | 124 => ⟨S128x4x1024, .f32⟩
  | 125 => ⟨S_, .f32⟩
  | 126 => ⟨S128x4x1024, .f32⟩
  | 127 => ⟨S128x4x1024, .f32⟩
  | _ => ⟨S128x4x1024, .f32⟩

abbrev hbmTy0_1 (i : Nat) : BufTy := match i % 128 with
  | 0 => ⟨S128x4x1024, .f32⟩
  | 1 => ⟨S_, .f32⟩
  | 2 => ⟨S128x4x1024, .f32⟩
  | 3 => ⟨S128x4x1024, .f32⟩
  | 4 => ⟨S128x4x1024, .f32⟩
  | 5 => ⟨S128x4x1024, .f32⟩
  | 6 => ⟨S128x4x1024, .f32⟩
  | 7 => ⟨S128x4x1024, .f32⟩
  | 8 => ⟨S128x4x1024, .f32⟩
  | 9 => ⟨S128x1024, .f32⟩
  | 10 => ⟨S128x1x1024, .f32⟩
  | 11 => ⟨S128x1024, .f32⟩
  | 12 => ⟨S128x1024, .f32⟩
  | 13 => ⟨S128x1x1024, .f32⟩
  | 14 => ⟨S128x1024, .f32⟩
  | 15 => ⟨S128x1024, .f32⟩
  | 16 => ⟨S128x1x1024, .f32⟩
  | 17 => ⟨S128x1024, .f32⟩
  | 18 => ⟨S128x1024, .f32⟩
  | 19 => ⟨S128x1x1024, .f32⟩
  | 20 => ⟨S128x1024, .f32⟩
  | 21 => ⟨S128x1024, .f32⟩
  | 22 => ⟨S128x1x1024, .f32⟩
  | 23 => ⟨S128x1024, .f32⟩
  | 24 => ⟨S128x1024, .f32⟩
  | 25 => ⟨S128x1x1024, .f32⟩
  | 26 => ⟨S128x1024, .f32⟩
  | 27 => ⟨S128x1024, .f32⟩
  | 28 => ⟨S128x1x1024, .f32⟩
  | 29 => ⟨S128x1024, .f32⟩
  | 30 => ⟨S128x1024, .f32⟩
  | 31 => ⟨S128x1x1024, .f32⟩
  | 32 => ⟨S128x1024, .f32⟩
  | 33 => ⟨S128x1024, .f32⟩
  | 34 => ⟨S512x1024, .f32⟩
  | 35 => ⟨S512x1024, .bf16⟩
  | 36 => ⟨S128x4x3072, .f32⟩
  | 37 => ⟨S4x128x3072, .f32⟩
  | 38 => ⟨S512x3072, .f32⟩
  | 39 => ⟨S512x3072, .bf16⟩
  | 40 => ⟨S128x3x1024, .f32⟩
  | 41 => ⟨S3x128x1024, .f32⟩
  | 42 => ⟨S384x1024, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_3 : Ref sig .tc := ⟨.hbm, 83, rfl⟩
abbrev main_v67 : Ref sig .tc := ⟨.hbm, 84, rfl⟩
abbrev main_v68 : Ref sig .tc := ⟨.hbm, 85, rfl⟩
abbrev main_cst_4 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_call0_cst : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_v5 : Ref sig .tc := ⟨.hbm, 97, rfl⟩
abbrev main_call0_v6 : Ref sig .tc := ⟨.hbm, 98, rfl⟩
abbrev main_call0_v7 : Ref sig .tc := ⟨.hbm, 99, rfl⟩
abbrev main_call0_v8 : Ref sig .tc := ⟨.hbm, 100, rfl⟩
abbrev main_call0_v9 : Ref sig .tc := ⟨.hbm, 101, rfl⟩
abbrev main_call0_v10 : Ref sig .tc := ⟨.hbm, 102, rfl⟩
abbrev main_call0_v11 : Ref sig .tc := ⟨.hbm, 103, rfl⟩
abbrev main_v73 : Ref sig .tc := ⟨.hbm, 104, rfl⟩
abbrev main_cst_5 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_6 : Ref sig .tc := ⟨.hbm, 122, rfl⟩
abbrev main_v90 : Ref sig .tc := ⟨.hbm, 123, rfl⟩
abbrev main_v91 : Ref sig .tc := ⟨.hbm, 124, rfl⟩
abbrev main_cst_7 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_8 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩

abbrev nD : Nat := 1
abbrev τ : Topo := Topo.v7x

variable {F : FTy → Type} [FloatOps F]
-- ==== Channel.lean ====
abbrev S8x2048x1024 : Shape := ⟨3, ![8, 2048, 1024]⟩
abbrev S8x2048x512 : Shape := ⟨3, ![8, 2048, 512]⟩
abbrev S8x2048x3072 : Shape := ⟨3, ![8, 2048, 3072]⟩
abbrev S1x8x2048x256 : Shape := ⟨4, ![1, 8, 2048, 256]⟩
abbrev S128x4x1024 : Shape := ⟨3, ![128, 4, 1024]⟩
abbrev S128x4x512 : Shape := ⟨3, ![128, 4, 512]⟩
abbrev S128x4x3072 : Shape := ⟨3, ![128, 4, 3072]⟩
abbrev S1x128x4x256 : Shape := ⟨4, ![1, 128, 4, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S1024 : Shape := ⟨1, ![1024]⟩
abbrev S16384x1024 : Shape := ⟨2, ![16384, 1024]⟩
abbrev S16384x512 : Shape := ⟨2, ![16384, 512]⟩
abbrev S16384x3072 : Shape := ⟨2, ![16384, 3072]⟩
abbrev S8x2048x256 : Shape := ⟨3, ![8, 2048, 256]⟩
abbrev S16384x256 : Shape := ⟨2, ![16384, 256]⟩
abbrev S4x128x1024 : Shape := ⟨3, ![4, 128, 1024]⟩
abbrev S4x128x512 : Shape := ⟨3, ![4, 128, 512]⟩
abbrev S512x512 : Shape := ⟨2, ![512, 512]⟩
abbrev S4x128x3072 : Shape := ⟨3, ![4, 128, 3072]⟩
abbrev S512x3072 : Shape := ⟨2, ![512, 3072]⟩
abbrev S128x4x256 : Shape := ⟨3, ![128, 4, 256]⟩
abbrev S4x128x256 : Shape := ⟨3, ![4, 128, 256]⟩
abbrev S512x256 : Shape := ⟨2, ![512, 256]⟩
abbrev S2 : Shape := ⟨1, ![2]⟩
abbrev S1 : Shape := ⟨1, ![1]⟩
abbrev S_ : Shape := ⟨0, ![]⟩
abbrev S512 : Shape := ⟨1, ![512]⟩
abbrev S512x1 : Shape := ⟨2, ![512, 1]⟩

abbrev nBuf : Space → Nat
  | .hbm => 56
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x512, .bf16⟩
  | .hbm, ⟨3, _⟩ => ⟨S8x2048x3072, .bf16⟩
  | .hbm, ⟨4, _⟩ => ⟨S1x8x2048x256, .f32⟩
  | .hbm, ⟨5, _⟩ => ⟨S128x4x1024, .f32⟩
  | .hbm, ⟨6, _⟩ => ⟨S128x4x1024, .bf16⟩
  | .hbm, ⟨7, _⟩ => ⟨S128x4x512, .bf16⟩
  | .hbm, ⟨8, _⟩ => ⟨S128x4x3072, .bf16⟩
  | .hbm, ⟨9, _⟩ => ⟨S1x128x4x256, .f32⟩
  | .hbm, ⟨10, _⟩ => ⟨S1x512x1024, .f32⟩
  | .hbm, ⟨11, _⟩ => ⟨S1x1024x1024, .f32⟩
  | .hbm, ⟨12, _⟩ => ⟨S1x1024x1024, .f32⟩
  | .hbm, ⟨13, _⟩ => ⟨S1x1024, .f32⟩
  | .hbm, ⟨14, _⟩ => ⟨S1x1024x4096, .f32⟩
  | .hbm, ⟨15, _⟩ => ⟨S1x4096x1024, .f32⟩
  | .hbm, ⟨16, _⟩ => ⟨S1x1024, .f32⟩
  | .hbm, ⟨17, _⟩ => ⟨S1x1024x1024, .f32⟩
  | .hbm, ⟨18, _⟩ => ⟨S1x256x1024, .f32⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024x4096, .f32⟩
  | .hbm, ⟨26, _⟩ => ⟨S1024x4096, .bf16⟩
  | .hbm, ⟨27, _⟩ => ⟨S4096x1024, .f32⟩
  | .hbm, ⟨28, _⟩ => ⟨S4096x1024, .bf16⟩
  | .hbm, ⟨29, _⟩ => ⟨S1024x1024, .f32⟩
  | .hbm, ⟨30, _⟩ => ⟨S1024x1024, .bf16⟩
  | .hbm, ⟨31, _⟩ => ⟨S256x1024, .f32⟩
  | .hbm, ⟨32, _⟩ => ⟨S256x1024, .bf16⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .bf16⟩
  | .hbm, ⟨39, _⟩ => ⟨S16384x512, .bf16⟩
  | .hbm, ⟨40, _⟩ => ⟨S16384x3072, .bf16⟩
  | .hbm, ⟨41, _⟩ => ⟨S8x2048x256, .f32⟩
  | .hbm, ⟨42, _⟩ => ⟨S16384x256, .f32⟩
  | .hbm, ⟨43, _⟩ => ⟨S4x128x1024, .f32⟩
  | .hbm, ⟨44, _⟩ => ⟨S512x1024, .f32⟩
  | .hbm, ⟨45, _⟩ => ⟨S4x128x1024, .bf16⟩
  | .hbm, ⟨46, _⟩ => ⟨S512x1024, .bf16⟩
  | .hbm, ⟨47, _⟩ => ⟨S4x128x512, .bf16⟩
  | .hbm, ⟨48, _⟩ => ⟨S512x512, .bf16⟩
  | .hbm, ⟨49, _⟩ => ⟨S4x128x3072, .bf16⟩
  | .hbm, ⟨50, _⟩ => ⟨S512x3072, .bf16⟩
  | .hbm, ⟨51, _⟩ => ⟨S128x4x256, .f32⟩
  | .hbm, ⟨52, _⟩ => ⟨S4x128x256, .f32⟩
  | .hbm, ⟨53, _⟩ => ⟨S512x256, .f32⟩
  | .hbm, ⟨54, _⟩ => ⟨S16384x1024, .f32⟩
  | .hbm, ⟨55, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S512x256, .f32⟩
  | .local _ .vmem, ⟨9, _⟩ => ⟨S512x256, .f32⟩
  | .local _ .vmem, ⟨10, _⟩ => ⟨S512x1024, .f32⟩
  | .local _ .vmem, ⟨11, _⟩ => ⟨S512x1024, .bf16⟩
  | .local _ .vmem, ⟨12, _⟩ => ⟨S512x512, .bf16⟩
  | .local _ .vmem, ⟨13, _⟩ => ⟨S512x3072, .bf16⟩
  | .local _ .vmem, ⟨14, _⟩ => ⟨S512x256, .f32⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1024x1024, .bf16⟩
  | .local _ .vmem, ⟨21, _⟩ => ⟨S256x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S1024x4096, .bf16⟩
  | .local _ .vmem, ⟨26, _⟩ => ⟨S4096x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35_0 : Ref sig .tc := ⟨.hbm, 54, rfl⟩
abbrev main_v35_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_4 : BitVec 32 := 0#32
  let v5 : BitVec 1 := Scalar.cmpi .ne v4 c0_i32_4
  v5

def k0_cond4 (i : grid0.Coords) : BitVec 1 :=
  let arg0 : BitVec 32 := BitVec.ofNat 32 (i 0).val
  let c32_i32_5 : BitVec 32 := 32#32
  let v6 : BitVec 1 := Scalar.cmpi .sge arg0 c32_i32_5
  let v7 : BitVec 32 := Scalar.extui v6
  let c0_i32_6 : BitVec 32 := 0#32
  let v8 : BitVec 1 := Scalar.cmpi .ne v7 c0_i32_6
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S512x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== ChannelRefIdeal.lean ====
abbrev S8x2048x1024 : Shape := ⟨3, ![8, 2048, 1024]⟩
abbrev S8x2048x512 : Shape := ⟨3, ![8, 2048, 512]⟩
abbrev S8x2048x3072 : Shape := ⟨3, ![8, 2048, 3072]⟩
abbrev S1x8x2048x256 : Shape := ⟨4, ![1, 8, 2048, 256]⟩
abbrev S128x4x1024 : Shape := ⟨3, ![128, 4, 1024]⟩
abbrev S128x4x512 : Shape := ⟨3, ![128, 4, 512]⟩
abbrev S128x4x3072 : Shape := ⟨3, ![128, 4, 3072]⟩
abbrev S1x128x4x256 : Shape := ⟨4, ![1, 128, 4, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S8x2048x256 : Shape := ⟨3, ![8, 2048, 256]⟩
abbrev S_ : Shape := ⟨0, ![]⟩
abbrev S1024x1024 : Shape := ⟨2, ![1024, 1024]⟩
abbrev S512x1024 : Shape := ⟨2, ![512, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1024x4096 : Shape := ⟨2, ![1024, 4096]⟩
abbrev S8x2048x4096 : Shape := ⟨3, ![8, 2048, 4096]⟩
abbrev S4096x1024 : Shape := ⟨2, ![4096, 1024]⟩
abbrev S256x1024 : Shape := ⟨2, ![256, 1024]⟩
abbrev S128x4x256 : Shape := ⟨3, ![128, 4, 256]⟩
abbrev S128x4 : Shape := ⟨2, ![128, 4]⟩
abbrev S128x4x1 : Shape := ⟨3, ![128, 4, 1]⟩
abbrev S128x4x4096 : Shape := ⟨3, ![128, 4, 4096]⟩
abbrev S16384x1024 : Shape := ⟨2, ![16384, 1024]⟩
abbrev S4x128x1024 : Shape := ⟨3, ![4, 128, 1024]⟩

abbrev nBuf : Space → Nat
  | .hbm => 238
  | .vmem => 0
  | .smem => 0
  | _ => 0

abbrev hbmTy0_0 (i : Nat) : BufTy := match i % 128 with
  | 0 => ⟨S8x2048x1024, .f32⟩
  | 1 => ⟨S8x2048x1024, .bf16⟩
  | 2 => ⟨S8x2048x512, .bf16⟩
  | 3 => ⟨S8x2048x3072, .bf16⟩
  | 4 => ⟨S1x8x2048x256, .f32⟩
  | 5 => ⟨S128x4x1024, .f32⟩
  | 6 => ⟨S128x4x1024, .bf16⟩
  | 7 => ⟨S128x4x512, .bf16⟩
  | 8 => ⟨S128x4x3072, .bf16⟩
  | 9 => ⟨S1x128x4x256, .f32⟩
  | 10 => ⟨S1x512x1024, .f32⟩
  | 11 => ⟨S1x1024x1024, .f32⟩
  | 12 => ⟨S1x1024x1024, .f32⟩
  | 13 => ⟨S1x1024, .f32⟩
  | 14 => ⟨S1x1024x4096, .f32⟩
  | 15 => ⟨S1x4096x1024, .f32⟩
  | 16 => ⟨S1x1024, .f32⟩
  | 17 => ⟨S1x1024x1024, .f32⟩
  | 18 => ⟨S1x256x1024, .f32⟩
  | 19 => ⟨S8x2048x256, .f32⟩
  | 20 => ⟨S8x2048x1024, .f32⟩
  | 21 => ⟨S8x2048x512, .f32⟩
  | 22 => ⟨S8x2048x3072, .f32⟩
  | 23 => ⟨S8x2048x1024, .f32⟩
  | 24 => ⟨S8x2048x1024, .f32⟩
  | 25 => ⟨S8x2048x1024, .f32⟩
  | 26 => ⟨S8x2048x1024, .f32⟩
  | 27 => ⟨S8x2048x1024, .f32⟩
  | 28 => ⟨S_, .f32⟩
  | 29 => ⟨S8x2048x1024, .f32⟩
  | 30 => ⟨S8x2048x1024, .f32⟩
  | 31 => ⟨S8x2048x1024, .f32⟩
  | 32 => ⟨S_, .f32⟩
  | 33 => ⟨S8x2048x1024, .f32⟩
  | 34 => ⟨S8x2048x1024, .f32⟩
  | 35 => ⟨S8x2048x1024, .f32⟩
  | 36 => ⟨S_, .f32⟩
  | 37 => ⟨S8x2048x1024, .f32⟩
  | 38 => ⟨S8x2048x1024, .f32⟩
  | 39 => ⟨S_, .f32⟩
  | 40 => ⟨S8x2048x1024, .f32⟩
  | 41 => ⟨S8x2048x1024, .f32⟩
  | 42 => ⟨S8x2048x1024, .f32⟩
  | 43 => ⟨S8x2048x1024, .f32⟩
  | 44 => ⟨S1024x1024, .f32⟩
  | 45 => ⟨S8x2048x1024, .f32⟩
  | 46 => ⟨S8x2048x1024, .f32⟩
  | 47 => ⟨S8x2048x1024, .f32⟩
  | 48 => ⟨S_, .f32⟩
  | 49 => ⟨S8x2048x1024, .f32⟩
  | 50 => ⟨S8x2048x1024, .f32⟩
  | 51 => ⟨S_, .f32⟩
  | 52 => ⟨S8x2048x1024, .f32⟩
  | 53 => ⟨S8x2048x1024, .f32⟩
  | 54 => ⟨S512x1024, .f32⟩
  | 55 => ⟨S8x2048x1024, .f32⟩
  | 56 => ⟨S8x2048x1024, .f32⟩
  | 57 => ⟨S8x2048x1024, .f32⟩
  | 58 => ⟨S8x2048x1024, .f32⟩
  | 59 => ⟨S_, .f32⟩
  | 60 => ⟨S8x2048x1024, .f32⟩
  | 61 => ⟨S8x2048x1024, .f32⟩
  | 62 => ⟨S_, .f32⟩
  | 63 => ⟨S8x2048x1024, .f32⟩
  | 64 => ⟨S8x2048x1024, .f32⟩
  | 65 => ⟨S8x2048x1024, .f32⟩
  | 66 => ⟨S8x2048x1024, .f32⟩
  | 67 => ⟨S1024x1024, .f32⟩
  | 68 => ⟨S8x2048x1024, .f32⟩
  | 69 => ⟨S8x2048x1024, .f32⟩
  | 70 => ⟨S1024, .f32⟩
  | 71 => ⟨S8x2048x1024, .f32⟩
  | 72 => ⟨S_, .f32⟩
  | 73 => ⟨S8x2048, .f32⟩
  | 74 => ⟨S8x2048x1, .f32⟩
  | 75 => ⟨S_, .f32⟩
  | 76 => ⟨S8x2048x1, .f32⟩
  | 77 => ⟨S8x2048x1, .f32⟩
  | 78 => ⟨S_, .f32⟩
  | 79 => ⟨S8x2048x1, .f32⟩
  | 80 => ⟨S8x2048x1, .f32⟩
  | 81 => ⟨S8x2048x1, .f32⟩
  | 82 => ⟨S8x2048x1024, .f32⟩
  | 83 => ⟨S8x2048x1024, .f32⟩
  | 84 => ⟨S1x1x1024, .f32⟩
  | 85 => ⟨S8x2048x1024, .f32⟩
  | 86 => ⟨S8x2048x1024, .f32⟩
  | 87 => ⟨S1024x4096, .f32⟩
  | 88 => ⟨S8x2048x4096, .f32⟩
  | 89 => ⟨S_, .f32⟩
  | 90 => ⟨S8x2048x4096, .f32⟩
  | 91 => ⟨S8x2048x4096, .f32⟩
  | 92 => ⟨S8x2048x4096, .f32⟩
  | 93 => ⟨S4096x1024, .f32⟩
  | 94 => ⟨S8x2048x1024, .f32⟩
  | 95 => ⟨S8x2048x1024, .f32⟩
  | 96 => ⟨S1024, .f32⟩
  | 97 => ⟨S8x2048x1024, .f32⟩
  | 98 => ⟨S_, .f32⟩
  | 99 => ⟨S8x2048, .f32⟩
  | 100 => ⟨S8x2048x1, .f32⟩
  | 101 => ⟨S_, .f32⟩
  | 102 => ⟨S8x2048x1, .f32⟩
  | 103 => ⟨S8x2048x1, .f32⟩
  | 104 => ⟨S_, .f32⟩
  | 105 => ⟨S8x2048x1, .f32⟩
  | 106 => ⟨S8x2048x1, .f32⟩
  | 107 => ⟨S8x2048x1, .f32⟩
  | 108 => ⟨S8x2048x1024, .f32⟩
  | 109 => ⟨S8x2048x1024, .f32⟩
  | 110 => ⟨S1x1x1024, .f32⟩
  | 111 => ⟨S8x2048x1024, .f32⟩
  | 112 => ⟨S8x2048x1024, .f32⟩
  | 113 => ⟨S1024x1024, .f32⟩
  | 114 => ⟨S8x2048x1024, .f32⟩
  | 115 => ⟨S8x2048x1024, .f32⟩
  | 116 => ⟨S8x2048x1024, .f32⟩
  | 117 => ⟨S_, .f32⟩
  | 118 => ⟨S8x2048x1024, .f32⟩
  | 119 => ⟨S8x2048x1024, .f32⟩
  | 120 => ⟨S_, .f32⟩
  | 121 => ⟨S8x2048x1024, .f32⟩
  | 122 => ⟨S8x2048x1024, .f32⟩
  | 123 => ⟨S256x1024, .f32⟩
  | 124 => ⟨S8x2048x1024, .f32⟩
  | 125 => ⟨S8x2048x1024, .f32⟩
  | 126 => ⟨S8x2048x1024, .f32⟩
  | 127 => ⟨S128x4x256, .f32⟩
  | _ => ⟨S8x2048x1024, .f32⟩

abbrev hbmTy0_1 (i : Nat) : BufTy := match i % 128 with
  | 0 => ⟨S128x4x1024, .f32⟩
  | 1 => ⟨S128x4x512, .f32⟩
  | 2 => ⟨S128x4x3072, .f32⟩
  | 3 => ⟨S128x4x1024, .f32⟩
  | 4 => ⟨S128x4x1024, .f32⟩
  | 5 => ⟨S128x4x1024, .f32⟩
  | 6 => ⟨S128x4x1024, .f32⟩
  | 7 => ⟨S128x4x1024, .f32⟩
  | 8 => ⟨S_, .f32⟩
  | 9 => ⟨S128x4x1024, .f32⟩
  | 10 => ⟨S128x4x1024, .f32⟩
  | 11 => ⟨S128x4x1024, .f32⟩
  | 12 => ⟨S_, .f32⟩
  | 13 => ⟨S128x4x1024, .f32⟩
  | 14 => ⟨S128x4x1024, .f32⟩
  | 15 => ⟨S128x4x1024, .f32⟩
  | 16 => ⟨S_, .f32⟩
  | 17 => ⟨S128x4x1024, .f32⟩
  | 18 => ⟨S128x4x1024, .f32⟩
  | 19 => ⟨S_, .f32⟩
  | 20 => ⟨S128x4x1024, .f32⟩
  | 21 => ⟨S128x4x1024, .f32⟩
  | 22 => ⟨S128x4x1024, .f32⟩
  | 23 => ⟨S128x4x1024, .f32⟩
  | 24 => ⟨S1024x1024, .f32⟩
  | 25 => ⟨S128x4x1024, .f32⟩
  | 26 => ⟨S128x4x1024, .f32⟩
  | 27 => ⟨S128x4x1024, .f32⟩
  | 28 => ⟨S_, .f32⟩
  | 29 => ⟨S128x4x1024, .f32⟩
  | 30 => ⟨S128x4x1024, .f32⟩
  | 31 => ⟨S_, .f32⟩
  | 32 => ⟨S128x4x1024, .f32⟩
  | 33 => ⟨S128x4x1024, .f32⟩
  | 34 => ⟨S512x1024, .f32⟩
  | 35 => ⟨S128x4x1024, .f32⟩
  | 36 => ⟨S128x4x1024, .f32⟩
  | 37 => ⟨S128x4x1024, .f32⟩
  | 38 => ⟨S128x4x1024, .f32⟩
  | 39 => ⟨S_, .f32⟩
  | 40 => ⟨S128x4x1024, .f32⟩
  | 41 => ⟨S128x4x1024, .f32⟩
  | 42 => ⟨S_, .f32⟩
  | 43 => ⟨S128x4x1024, .f32⟩
  | 44 => ⟨S128x4x1024, .f32⟩
  | 45 => ⟨S128x4x1024, .f32⟩
  | 46 => ⟨S128x4x1024, .f32⟩
  | 47 => ⟨S1024x1024, .f32⟩
  | 48 => ⟨S128x4x1024, .f32⟩
  | 49 => ⟨S128x4x1024, .f32⟩
  | 50 => ⟨S1024, .f32⟩
  | 51 => ⟨S128x4x1024, .f32⟩
  | 52 => ⟨S_, .f32⟩
  | 53 => ⟨S128x4, .f32⟩
  | 54 => ⟨S128x4x1, .f32⟩
  | 55 => ⟨S_, .f32⟩
  | 56 => ⟨S128x4x1, .f32⟩
  | 57 => ⟨S128x4x1, .f32⟩
  | 58 => ⟨S_, .f32⟩
  | 59 => ⟨S128x4x1, .f32⟩
  | 60 => ⟨S128x4x1, .f32⟩
  | 61 => ⟨S128x4x1, .f32⟩
  | 62 => ⟨S128x4x1024, .f32⟩
  | 63 => ⟨S128x4x1024, .f32⟩
  | 64 => ⟨S1x1x1024, .f32⟩
  | 65 => ⟨S128x4x1024, .f32⟩
  | 66 => ⟨S128x4x1024, .f32⟩
  | 67 => ⟨S1024x4096, .f32⟩
  | 68 => ⟨S128x4x4096, .f32⟩
  | 69 => ⟨S_, .f32⟩
  | 70 => ⟨S128x4x4096, .f32⟩
  | 71 => ⟨S128x4x4096, .f32⟩
  | 72 => ⟨S128x4x4096, .f32⟩
  | 73 => ⟨S4096x1024, .f32⟩
  | 74 => ⟨S128x4x1024, .f32⟩
  | 75 => ⟨S128x4x1024, .f32⟩
  | 76 => ⟨S1024, .f32⟩
  | 77 => ⟨S128x4x1024, .f32⟩
  | 78 => ⟨S_, .f32⟩
  | 79 => ⟨S128x4, .f32⟩
  | 80 => ⟨S128x4x1, .f32⟩
  | 81 => ⟨S_, .f32⟩
  | 82 => ⟨S128x4x1, .f32⟩
  | 83 => ⟨S128x4x1, .f32⟩
  | 84 => ⟨S_, .f32⟩
  | 85 => ⟨S128x4x1, .f32⟩
  | 86 => ⟨S128x4x1, .f32⟩
  | 87 => ⟨S128x4x1, .f32⟩
  | 88 => ⟨S128x4x1024, .f32⟩
  | 89 => ⟨S128x4x1024, .f32⟩
  | 90 => ⟨S1x1x1024, .f32⟩
  | 91 => ⟨S128x4x1024, .f32⟩
  | 92 => ⟨S128x4x1024, .f32⟩
  | 93 => ⟨S1024x1024, .f32⟩
  | 94 => ⟨S128x4x1024, .f32⟩
  | 95 => ⟨S128x4x1024, .f32⟩
  | 96 => ⟨S128x4x1024, .f32⟩
  | 97 => ⟨S_, .f32⟩
  | 98 => ⟨S128x4x1024, .f32⟩
  | 99 => ⟨S128x4x1024, .f32⟩
  | 100 => ⟨S_, .f32⟩
  | 101 => ⟨S128x4x1024, .f32⟩
  | 102 => ⟨S128x4x1024, .f32⟩
  | 103 => ⟨S256x1024, .f32⟩
  | 104 => ⟨S128x4x1024, .f32⟩
  | 105 => ⟨S128x4x1024, .f32⟩
  | 106 => ⟨S128x4x1024, .f32⟩
  | 107 => ⟨S16384x1024, .f32⟩
  | 108 => ⟨S4x128x1024, .f32⟩
  | 109 => ⟨S512x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call0_cst : Ref sig .tc := ⟨.hbm, 89, rfl⟩
abbrev main_call0_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_cst_12 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_13 : Ref sig .tc := ⟨.hbm, 117, rfl⟩
abbrev main_v82 : Ref sig .tc := ⟨.hbm, 118, rfl⟩
abbrev main_v83 : Ref sig .tc := ⟨.hbm, 119, rfl⟩
abbrev main_cst_14 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_15 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_16 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_17 : Ref sig .tc := ⟨.hbm, 144, rfl⟩
abbrev main_v105 : Ref sig .tc := ⟨.hbm, 145, rfl⟩
abbrev main_v106 : Ref sig .tc := ⟨.hbm, 146, rfl⟩
abbrev main_cst_18 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_19 : Ref sig .tc := ⟨.hbm, 156, rfl⟩
abbrev main_v115 : Ref sig .tc := ⟨.hbm, 157, rfl⟩
abbrev main_v116 : Ref sig .tc := ⟨.hbm, 158, rfl⟩
abbrev main_cst_20 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_21 : Ref sig .tc := ⟨.hbm, 167, rfl⟩
abbrev main_v124 : Ref sig .tc := ⟨.hbm, 168, rfl⟩
abbrev main_v125 : Ref sig .tc := ⟨.hbm, 169, rfl⟩
abbrev main_cst_22 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_23 : Ref sig .tc := ⟨.hbm, 180, rfl⟩
abbrev main_v135 : Ref sig .tc := ⟨.hbm, 181, rfl⟩
abbrev main_v136 : Ref sig .tc := ⟨.hbm, 182, rfl⟩
abbrev main_cst_24 : Ref sig .tc := ⟨.hbm, 183, rfl⟩
abbrev main_v137 : Ref sig .tc := ⟨.hbm, 184, rfl⟩
abbrev main_v138 : Ref sig .tc := ⟨.hbm, 185, rfl⟩
abbrev main_cst_25 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_call1_cst : Ref sig .tc := ⟨.hbm, 197, rfl⟩
abbrev main_call1_v0 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_26 : Ref sig .tc := ⟨.hbm, 206, rfl⟩
abbrev main_v156 : Ref sig .tc := ⟨.hbm, 207, rfl⟩
abbrev main_v157 : Ref sig .tc := ⟨.hbm, 208, rfl⟩
abbrev main_cst_27 : Ref sig .tc := ⟨.hbm, 209, rfl⟩
abbrev main_v158 : Ref sig .tc := ⟨.hbm, 210, rfl⟩
abbrev main_v159 : Ref sig .tc := ⟨.hbm, 211, rfl⟩
abbrev main_cst_28 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_cst_29 : Ref sig .tc := ⟨.hbm, 225, rfl⟩
abbrev main_v172 : Ref sig .tc := ⟨.hbm, 226, rfl⟩
abbrev main_v173 : Ref sig .tc := ⟨.hbm, 227, rfl⟩
abbrev main_cst_30 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩

abbrev nD : Nat := 1
abbrev τ : Topo := Topo.v7x

variable {F : FTy → Type} [FloatOps F]
-- ==== Proof.MixSpec.lean ====
module

public import Idealize.ShloMosaic.Lib.Pointwise

@[expose] public section
set_option maxRecDepth 16384
noncomputable section
namespace Cert.MixSpec
open Idealize.ShloMosaic

/-- The extended reals at the indices of a matrix of `a` by `b`. -/
abbrev T2 (a b : ℕ) := (⟨2, ![a, b]⟩ : Shape).Idx → EReal
/-- The extended reals at the indices of an array of three dimensions. -/
abbrev T3 (a b c : ℕ) := (⟨3, ![a, b, c]⟩ : Shape).Idx → EReal
/-- The extended reals at the indices of an array of four dimensions. -/
abbrev T4 (a b c d : ℕ) := (⟨4, ![a, b, c, d]⟩ : Shape).Idx → EReal

/-- The argument arrays of the mixer: input, convolution state, recurrent state, norm scale, projection weights, convolution
    weights and bias, recurrence gate's weights and bias, input gate's weights and bias, decay parameter. -/
structure Args where
  x : T3 128 4 1024
  cs : T4 1 128 3 1024
  hs : T3 1 128 1024
  g : T2 1 1024
  w : T3 1 1024 4864
  cw : T3 1 4 1024
  cb : T2 1 1024
  wa : T4 1 16 64 64
  ba : T2 1 1024
  wx : T4 1 16 64 64
  bx : T2 1 1024
  lam : T2 1 1024

variable (A : Args)

/-- The reciprocal root of the mean square of sample `s` at step `t`. -/
def rs (s : Fin 128) (t : Fin 4) : EReal :=
  Ideal.rsqrt (Ideal.div (∑ k, A.x (ix3 s t k) * A.x (ix3 s t k)) (Ideal.ofBits .f32 1149239296#32) + Ideal.ofBits .f32 897988541#32)

/-- Column `n` of the projection of sample `s` at step `t`. -/
def pj (s : Fin 128) (t : Fin 4) (n : Fin 4864) : EReal :=
  ∑ k, A.x (ix3 s t k) * rs A s t * A.g (ix2 0 k) * A.w (ix3 0 k n)

/-- The convolution's input: the three kept rows, then the four new ones. -/
def xp (s : Fin 128) (u : Fin 7) (l : Fin 1024) : EReal :=
  if h : u.val < 3 then A.cs (ix4 0 s ⟨u.val, h⟩ l) else pj A s ⟨u.val - 3, by omega⟩ ⟨768 + l.val, by omega⟩

/-- The convolution of four taps. -/
def xc (s : Fin 128) (t : Fin 4) (l : Fin 1024) : EReal :=
  A.cb (ix2 0 l) + (A.cw (ix3 0 0 l) * xp A s ⟨t.val, by omega⟩ l + A.cw (ix3 0 1 l) * xp A s ⟨1 + t.val, by omega⟩ l
    + A.cw (ix3 0 2 l) * xp A s ⟨2 + t.val, by omega⟩ l + A.cw (ix3 0 3 l) * xp A s ⟨3 + t.val, by omega⟩ l)

/-- A gate: the product with the diagonal block of `w` that column `l` lies in, and the bias, through the logistic function. -/
def gate (w : T4 1 16 64 64) (b : T2 1 1024) (s : Fin 128) (t : Fin 4) (l : Fin 1024) : EReal :=
  Ideal.logistic (∑ y : Fin 64, w (ix4 0 ⟨l.val / 64, by omega⟩ y ⟨l.val % 64, by omega⟩) * xc A s t ⟨l.val / 64 * 64 + y.val, by omega⟩
    + b (ix2 0 l))

/-- The soft plus of an extended real. -/
def sp (z : EReal) : EReal := if z ≠ z then z else max z 0 + Ideal.log1p (Ideal.exp (-(FloatOps.absf (F := Ideal) (φ := .f32) z : EReal)))

/-- The logarithm of the decay. -/
def la (s : Fin 128) (t : Fin 4) (l : Fin 1024) : EReal :=
  Ideal.ofBits .f32 3238002688#32 * sp (-A.lam (ix2 0 l)) * gate A A.wa A.ba s t l

/-- The decay. -/
def aa (s : Fin 128) (t : Fin 4) (l : Fin 1024) : EReal := Ideal.exp (la A s t l)

/-- The input's term of the recurrence. -/
def bt (s : Fin 128) (t : Fin 4) (l : Fin 1024) : EReal :=
  Ideal.sqrt (-(Ideal.exp (Ideal.ofBits .f32 1073741824#32 * la A s t l) - 1)) * (gate A A.wx A.bx s t l * xc A s t l)

/-- The recurrent state after step 0. -/
def h0 (s : Fin 128) (l : Fin 1024) : EReal := aa A s 0 l * A.hs (ix3 0 s l) + bt A s 0 l
/-- The recurrent state after step 1. -/
def h1 (s : Fin 128) (l : Fin 1024) : EReal := aa A s 1 l * h0 A s l + bt A s 1 l
/-- The recurrent state after step 2. -/
def h2 (s : Fin 128) (l : Fin 1024) : EReal := aa A s 2 l * h1 A s l + bt A s 2 l
/-- The recurrent state after step 3. -/
def h3 (s : Fin 128) (l : Fin 1024) : EReal := aa A s 3 l * h2 A s l + bt A s 3 l

/-- The states of the four steps, one after another. -/
def hAll (r : Fin 512) (l : Fin 1024) : EReal :=
  if h : r.val < 128 then h0 A ⟨r.val, h⟩ l
  else if h : r.val - 128 < 128 then h1 A ⟨r.val - 128, h⟩ l
  else if h : r.val - 128 - 128 < 128 then h2 A ⟨r.val - 128 - 128, h⟩ l
  else h3 A ⟨r.val - 128 - 128 - 128, by omega⟩ l

/-- The projection's columns that the layer's tail reads, one step after another. -/
def preAll (r : Fin 512) (n : Fin 3072) : EReal := pj A ⟨r.val % 128, by omega⟩ ⟨r.val / 128, by omega⟩ ⟨1792 + n.val, by omega⟩

/-- The last three rows of the convolution's input, one step after another. -/
def convAll (r : Fin 384) (l : Fin 1024) : EReal := xp A ⟨r.val % 128, by omega⟩ ⟨4 + r.val / 128, by omega⟩ l

/-- Where the mask of the four steps' states is set: the decays up to that step are at most `c`. -/
def small (s : Fin 128) (t : Fin 4) (l : Fin 1024) : Prop := la A s t l ≤ Ideal.ofBits .f32 3120562176#32

end Cert.MixSpec
-- ==== Proof.MixScalar.lean ====
module

public import Idealize.ShloMosaic.Lib.Pointwise

@[expose] public section
noncomputable section
namespace Cert.MixSpec
open Idealize.ShloMosaic

/-- A sum over 256 positions against a factor that is zero outside block `c` of 64 is the sum over that block. -/
theorem collapse (f : Fin 256 → EReal) (h : Fin 64 → EReal) (c : Fin 4) :
    (∑ x : Fin 256, f x * (if x.val / 64 = c.val then h ⟨x.val % 64, by omega⟩ else 0))
      = ∑ y : Fin 64, h y * f ⟨c.val * 64 + y.val, by omega⟩ := by
  rw [← (finProdFinEquiv (m := 4) (n := 64)).sum_comp
    (fun x : Fin 256 => f x * (if x.val / 64 = c.val then h ⟨x.val % 64, by omega⟩ else 0)), Fintype.sum_prod_type]
  rw [Finset.sum_eq_single c]
  · refine Finset.sum_congr rfl fun y _ => ?_
    have e : (finProdFinEquiv (m := 4) (n := 64) (c, y)).val = y.val + 64 * c.val := rfl
    have e1 : (finProdFinEquiv (m := 4) (n := 64) (c, y)).val / 64 = c.val := by rw [e]; omega
    rw [if_pos e1, mul_comm]
    congr 2
    · exact Fin.ext (by simp only [e]; omega)
    · exact Fin.ext (by simp only [e]; omega)
  · intro b _ hb
    refine Finset.sum_eq_zero fun y _ => ?_
    have e : (finProdFinEquiv (m := 4) (n := 64) (b, y)).val = y.val + 64 * b.val := rfl
    rw [if_neg, mul_zero]
    rw [e]
    intro h'
    exact hb (Fin.ext (by omega))
  · intro h'
    exact absurd (Finset.mem_univ c) h'

/-- The bit pattern of two. -/
theorem ofBits_two : Ideal.ofBits .f32 1073741824#32 = ((2 : ℝ) : EReal) := by
  simp [Ideal.ofBits, Ideal.ieee, -EReal.coe_mul]
  norm_num

/-- The bit pattern of the decay's bound. -/
theorem ofBits_bound : Ideal.ofBits .f32 3120562176#32 = ((-(1 / 2048) : ℝ) : EReal) := by
  simp [Ideal.ofBits, Ideal.ieee, -EReal.coe_mul]
  norm_num

/-- The bit pattern of the root's floor, which is below a thousandth of the least root taken. -/
theorem ofBits_floor : ∃ r : ℝ, Ideal.ofBits .f32 228737632#32 = ((r : ℝ) : EReal) ∧ r ≤ 1 / 4096 := by
  refine ⟨10633824 / 2 ^ 123, ?_, by norm_num⟩
  simp [Ideal.ofBits, Ideal.ieee, -EReal.coe_mul]
  norm_num

/-- Where the logarithm `z` of the decay is at most the bound, the kernel's form of the input factor is the reference's. -/
theorem input_factor (z : EReal) (hz : z ≤ Ideal.ofBits .f32 3120562176#32) :
    (if Ideal.ofBits .f32 3120562176#32 < z then Ideal.ofBits .f32 3221225472#32 * z * (1 + z) else 1 - Ideal.exp z * Ideal.exp z)
      * Ideal.rsqrt (max (if Ideal.ofBits .f32 3120562176#32 < z then Ideal.ofBits .f32 3221225472#32 * z * (1 + z) else 1 - Ideal.exp z * Ideal.exp z) (Ideal.ofBits .f32 228737632#32))
      = Ideal.sqrt (-(Ideal.exp (Ideal.ofBits .f32 1073741824#32 * z) - 1)) := by
  rw [if_neg (not_lt.mpr hz)]
  obtain ⟨r, hr, hr'⟩ := ofBits_floor
  rw [hr, ofBits_two]
  rw [ofBits_bound] at hz
  have key : ∀ y : ℝ, 1 / 4096 ≤ y → ((y : ℝ) : EReal) * Ideal.rsqrt (max ((y : ℝ) : EReal) (r : EReal)) = Ideal.sqrt ((y : ℝ) : EReal) := by
    intro y hy
    have hp : 0 < y := by linarith
    rw [max_eq_left (by exact_mod_cast hr'.trans hy), Ideal.rsqrt_coe, Ideal.sqrt_coe, if_neg (not_lt.mpr hp.le), if_neg hp.ne', if_neg (not_lt.mpr hp.le)]
    norm_cast
    have := Real.mul_self_sqrt hp.le
    have h2 : Real.sqrt y ≠ 0 := (Real.sqrt_pos.mpr hp).ne'
    field_simp
    nlinarith
  induction z using EReal.rec with
  | bot =>
    have e : ((2 : ℝ) : EReal) * ⊥ = ⊥ := EReal.coe_mul_bot_of_pos (by norm_num)
    rw [e, Ideal.exp_bot]
    have := key 1 (by norm_num)
    simpa using this
  | top => exact absurd hz (by simp)
  | coe x =>
    have hx : x ≤ -(1 / 2048) := by exact_mod_cast hz
    have hy : 1 / 4096 ≤ 1 - Real.exp x * Real.exp x := by
      rw [← Real.exp_add]
      have h1 : Real.exp (x + x) ≤ Real.exp (-(1 / 1024)) := Real.exp_le_exp.mpr (by linarith)
      have h2 : (1 : ℝ) / 1024 + 1 ≤ Real.exp (1 / 1024) := Real.add_one_le_exp _
      have h3 : Real.exp (-(1 / 1024)) * Real.exp (1 / 1024) = 1 := by rw [← Real.exp_add]; norm_num
      have h4 : 0 < Real.exp (-(1 / 1024 : ℝ)) := Real.exp_pos _
      nlinarith
    have := key _ hy
    have e1 : (1 : EReal) - Ideal.exp (x : EReal) * Ideal.exp (x : EReal) = ((1 - Real.exp x * Real.exp x : ℝ) : EReal) := by
      rw [Ideal.exp_coe]; norm_cast
    have e2 : -(Ideal.exp (((2 : ℝ) : EReal) * (x : EReal)) - 1) = ((1 - Real.exp x * Real.exp x : ℝ) : EReal) := by
      rw [← EReal.coe_mul, Ideal.exp_coe, two_mul, Real.exp_add]
      norm_cast
      ring_nf
    rw [e1, e2]
    exact this

end Cert.MixSpec
-- ==== Proof.MixKernel.lean ====
module

public import proofs.«01_k».proof.Proof.Gen.MixerIdeal.Frame
public import Idealize.ShloMosaic.Lib.Pointwise
public import Idealize.ShloMosaic.Lib.Pipeline.Value
public import Idealize.ShloMosaic.Lib.Pointwise.Blocks
public import proofs.«01_k».proof.Proof.MixSpec
public import proofs.«01_k».proof.Proof.MixScalar

@[expose] public section
set_option maxRecDepth 16384
noncomputable section
namespace Cert.MixerIdeal.Hand
open Cert.MixerIdeal Cert.MixerIdeal.Gen Cert.MixSpec Idealize.ShloMosaic Idealize.ShloMosaic.TcCoe Idealize.SL.Sem

variable (A : Args)
variable (x0 : Vec Ideal S512x1024 .f32) (x1 : Vec Ideal S384x1024 .f32) (x2 : Vec Ideal S128x1024 .f32) (x3 : Vec Ideal S1x1024 .f32) (x4 : Vec Ideal S1024x4864 .bf16) (x5 : Vec Ideal S4x1024 .f32) (x6 : Vec Ideal S1x1024 .f32) (x7 : Vec Ideal S4x256x512 .bf16) (x8 : Vec Ideal S1x1024 .f32) (x9 : Vec Ideal S1x1024 .f32) (x10 : Vec Ideal S1x1024 .f32)

/-- The kernel's input blocks hold the arguments: rows of one step after another, the gates' diagonal blocks side by side in
    wider blocks padded by zero. -/
structure Ins : Prop where
  h0 : ∀ (r : Fin 512) (l : Fin 1024), (x0 (ix2 r l) : EReal) = A.x (ix3 ⟨r.val % 128, by omega⟩ ⟨r.val / 128, by omega⟩ l)
  h1 : ∀ (r : Fin 384) (l : Fin 1024), (x1 (ix2 r l) : EReal) = A.cs (ix4 0 ⟨r.val % 128, by omega⟩ ⟨r.val / 128, by omega⟩ l)
  h2 : ∀ (r : Fin 128) (l : Fin 1024), (x2 (ix2 r l) : EReal) = A.hs (ix3 0 r l)
  h3 : ∀ (l : Fin 1024), (x3 (ix2 0 l) : EReal) = A.g (ix2 0 l)
  h4 : ∀ (k : Fin 1024) (n : Fin 4864), (x4 (ix2 k n) : EReal) = A.w (ix3 0 k n)
  h5 : ∀ (j : Fin 4) (l : Fin 1024), (x5 (ix2 j l) : EReal) = A.cw (ix3 0 j l)
  h6 : ∀ (l : Fin 1024), (x6 (ix2 0 l) : EReal) = A.cb (ix2 0 l)
  h7 : ∀ (q : Fin 4) (d : Fin 256) (e : Fin 512), (x7 (ix3 q d e) : EReal)
    = if d.val / 64 = e.val / 64 % 4 then
        (if e.val < 256 then A.wa else A.wx) (ix4 0 ⟨q.val * 4 + d.val / 64, by omega⟩ ⟨d.val % 64, by omega⟩ ⟨e.val % 64, by omega⟩)
      else 0
  h8 : ∀ (l : Fin 1024), (x8 (ix2 0 l) : EReal) = A.ba (ix2 0 l)
  h9 : ∀ (l : Fin 1024), (x9 (ix2 0 l) : EReal) = A.bx (ix2 0 l)
  h10 : ∀ (l : Fin 1024), (x10 (ix2 0 l) : EReal) = A.lam (ix2 0 l)

variable (H : Ins A x0 x1 x2 x3 x4 x5 x6 x7 x8 x9 x10)
include H

omit H in
/-- The projection at equal samples and steps. -/
theorem pj_at (s s' : Fin 128) (t t' : Fin 4) (n n' : Fin 4864) (hs : s.val = s'.val) (ht : t.val = t'.val) (hn : n.val = n'.val) : pj A s t n = pj A s' t' n' := by
  rw [Fin.ext hs, Fin.ext ht, Fin.ext hn]

omit H in
/-- The convolution at equal samples and steps. -/
theorem xc_at (s s' : Fin 128) (t t' : Fin 4) (l l' : Fin 1024) (hs : s.val = s'.val) (ht : t.val = t'.val) (hl : l.val = l'.val) : xc A s t l = xc A s' t' l' := by
  rw [Fin.ext hs, Fin.ext ht, Fin.ext hl]

/-- The kernel's product of the normalised rows with the recurrence's columns. -/
theorem p8 (r : Fin 512) (l : Fin 1024) : (k0_pay8 (View.ld x0 r0_0) (View.ld x3 r0_1) (View.ld x4 r0_2) (ix2 r l) : EReal)
    = pj A ⟨r.val % 128, by omega⟩ ⟨r.val / 128, by omega⟩ ⟨768 + l.val, by omega⟩ := by
  pointwise [k0_pay8, k0_pay7]
  simp only [H.h0, H.h3, H.h4]
  rfl

/-- A row of the kept state. -/
theorem kept (r : Fin 384) (l : Fin 1024) (s : Fin 128) (u : Fin 7) (hs : r.val % 128 = s.val) (hu : r.val / 128 = u.val) :
    (x1 (ix2 r l) : EReal) = xp A s u l := by
  have h3 : u.val < 3 := by omega
  rw [H.h1, xp, dif_pos h3]
  congr 2
  · exact Fin.ext hs
  · exact Fin.ext hu

/-- Row 1 of the convolution's input. -/
theorem p45 (s : Fin 128) (l : Fin 1024) : (k0_pay45 x0 x1 x2 x3 x4 x5 x6 x7 x8 x9 x10 (ix2 s l) : EReal) = xp A s 1 l := by
  pointwise [k0_pay45, k0_pay10, k0_pay9]
  exact kept A x0 x1 x2 x3 x4 x5 x6 x7 x8 x9 x10 H _ l s 1 (by (try simp only) <;> omega) (by show _ = 1; (try simp only) <;> omega)

/-- Row 2 of the convolution's input. -/
theorem p46 (s : Fin 128) (l : Fin 1024) : (k0_pay46 x0 x1 x2 x3 x4 x5 x6 x7 x8 x9 x10 (ix2 s l) : EReal) = xp A s 2 l := by
  pointwise [k0_pay46, k0_pay11, k0_pay9]
  exact kept A x0 x1 x2 x3 x4 x5 x6 x7 x8 x9 x10 H _ l s 2 (by (try simp only) <;> omega) (by show _ = 2; (try simp only) <;> omega)

/-- Row 3 of the convolution's input. -/
theorem p47 (s : Fin 128) (l : Fin 1024) : (k0_pay47 x0 x1 x2 x3 x4 x5 x6 x7 x8 x9 x10 (ix2 s l) : EReal) = xp A s 3 l := by
  pointwise [k0_pay47, k0_pay12]
  rw [p8 A x0 x1 x2 x3 x4 x5 x6 x7 x8 x9 x10 H]
  exact pj_at A _ _ _ _ _ _ (by (try simp only) <;> omega) (by show _ = 0; (try simp only) <;> omega) rfl

/-- Row 4 of the convolution's input. -/
theorem p48 (s : Fin 128) (l : Fin 1024) : (k0_pay48 x0 x1 x2 x3 x4 x5 x6 x7 x8 x9 x10 (ix2 s l) : EReal) = xp A s 4 l := by
  pointwise [k0_pay48, k0_pay13]
  rw [p8 A x0 x1 x2 x3 x4 x5 x6 x7 x8 x9 x10 H]
  exact pj_at A _ _ _ _ _ _ (by (try simp only) <;> omega) (by show _ = 1; (try simp only) <;> omega) rfl

/-- Row 5 of the convolution's input. -/
theorem p49 (s : Fin 128) (l : Fin 1024) : (k0_pay49 x0 x1 x2 x3 x4 x5 x6 x7 x8 x9 x10 (ix2 s l) : EReal) = xp A s 5 l := by
  pointwise [k0_pay49, k0_pay14]
  rw [p8 A x0 x1 x2 x3 x4 x5 x6 x7 x8 x9 x10 H]
  exact pj_at A _ _ _ _ _ _ (by (try simp only) <;> omega) (by show _ = 2; (try simp only) <;> omega) rfl

/-- Row 6 of the convolution's input. -/
theorem p50 (s : Fin 128) (l : Fin 1024) : (k0_pay50 x0 x1 x2 x3 x4 x5 x6 x7 x8 x9 x10 (ix2 s l) : EReal) = xp A s 6 l := by
  pointwise [k0_pay50, k0_pay15]
  rw [p8 A x0 x1 x2 x3 x4 x5 x6 x7 x8 x9 x10 H]
  exact pj_at A _ _ _ _ _ _ (by (try simp only) <;> omega) (by show _ = 3; (try simp only) <;> omega) rfl

/-- Step 0 of the convolution. -/
theorem p51 (s : Fin 128) (l : Fin 1024) : (k0_pay51 x0 x1 x2 x3 x4 x5 x6 x7 x8 x9 x10 (ix2 s l) : EReal) = xc A s 0 l := by
  pointwise [k0_pay51, k0_pay16, k0_pay17, k0_pay18, k0_pay19, k0_pay9]
  simp only [H.h5, H.h6, p45 A x0 x1 x2 x3 x4 x5 x6 x7 x8 x9 x10 H, p46 A x0 x1 x2 x3 x4 x5 x6 x7 x8 x9 x10 H, p47 A x0 x1 x2 x3 x4 x5 x6 x7 x8 x9 x10 H]
  rw [kept A x0 x1 x2 x3 x4 x5 x6 x7 x8 x9 x10 H _ l s 0 (by (try simp only) <;> omega) (by show _ = 0; (try simp only) <;> omega)]
  rfl

/-- Step 1 of the convolution. -/
theorem p52 (s : Fin 128) (l : Fin 1024) : (k0_pay52 x0 x1 x2 x3 x4 x5 x6 x7 x8 x9 x10 (ix2 s l) : EReal) = xc A s 1 l := by
  pointwise [k0_pay52, k0_pay20]
  simp only [H.h5, H.h6, p45 A x0 x1 x2 x3 x4 x5 x6 x7 x8 x9 x10 H, p46 A x0 x1 x2 x3 x4 x5 x6 x7 x8 x9 x10 H, p47 A x0 x1 x2 x3 x4 x5 x6 x7 x8 x9 x10 H, p48 A x0 x1 x2 x3 x4 x5 x6 x7 x8 x9 x10 H]
  rfl

/-- Step 2 of the convolution. -/
theorem p53 (s : Fin 128) (l : Fin 1024) : (k0_pay53 x0 x1 x2 x3 x4 x5 x6 x7 x8 x9 x10 (ix2 s l) : EReal) = xc A s 2 l := by
  pointwise [k0_pay53, k0_pay21, k0_pay22]
  simp only [H.h5, H.h6, p46 A x0 x1 x2 x3 x4 x5 x6 x7 x8 x9 x10 H, p47 A x0 x1 x2 x3 x4 x5 x6 x7 x8 x9 x10 H, p48 A x0 x1 x2 x3 x4 x5 x6 x7 x8 x9 x10 H, p49 A x0 x1 x2 x3 x4 x5 x6 x7 x8 x9 x10 H]
  rfl

/-- The convolution's steps, one after another. -/
theorem p25 (r : Fin 512) (l : Fin 1024) : (k0_pay25 (k0_pay50 x0 x1 x2 x3 x4 x5 x6 x7 x8 x9 x10) (k0_pay51 x0 x1 x2 x3 x4 x5 x6 x7 x8 x9 x10) (k0_pay52 x0 x1 x2 x3 x4 x5 x6 x7 x8 x9 x10) (k0_pay53 x0 x1 x2 x3 x4 x5 x6 x7 x8 x9 x10) (k0_pay54 x0 x1 x2 x3 x4 x5 x6 x7 x8 x9 x10) (k0_pay55 x0 x1 x2 x3 x4 x5 x6 x7 x8 x9 x10) (View.ld x5 r0_7) (ix2 r l) : EReal)
    = xc A ⟨r.val % 128, by omega⟩ ⟨r.val / 128, by omega⟩ l := by
  pointwise [k0_pay25]
  by_cases h0 : r.val < 128
  · rw [dif_pos h0]
    refine Eq.trans (p51 A x0 x1 x2 x3 x4 x5 x6 x7 x8 x9 x10 H _ l) (xc_at A _ _ _ _ _ _ (by (try simp only) <;> omega) (by show 0 = _; (try simp only) <;> omega) rfl)
  rw [dif_neg h0]
  by_cases h1 : r.val - 128 < 128
  · rw [dif_pos h1]
    refine Eq.trans (p52 A x0 x1 x2 x3 x4 x5 x6 x7 x8 x9 x10 H _ l) (xc_at A _ _ _ _ _ _ (by (try simp only) <;> omega) (by show 1 = _; (try simp only) <;> omega) rfl)
  rw [dif_neg h1]
  by_cases h2 : r.val - 128 - 128 < 128
  · rw [dif_pos h2]
    refine Eq.trans (p53 A x0 x1 x2 x3 x4 x5 x6 x7 x8 x9 x10 H _ l) (xc_at A _ _ _ _ _ _ (by (try simp only) <;> omega) (by show 2 = _; (try simp only) <;> omega) rfl)
  rw [dif_neg h2]
  refine Eq.trans ?_ (xc_at A ⟨r.val - 128 - 128 - 128, by omega⟩ _ 3 _ l l (by (try simp only) <;> omega) (by show 3 = _; (try simp only) <;> omega) rfl)
  rw [p50 A x0 x1 x2 x3 x4 x5 x6 x7 x8 x9 x10 H]
  pointwise [k0_pay54, k0_pay23, k0_pay55, k0_pay24]
  simp only [H.h5, H.h6, p47 A x0 x1 x2 x3 x4 x5 x6 x7 x8 x9 x10 H, p48 A x0 x1 x2 x3 x4 x5 x6 x7 x8 x9 x10 H, p49 A x0 x1 x2 x3 x4 x5 x6 x7 x8 x9 x10 H]
  rfl

/-- The same, read by the gates' products. -/
theorem p30 (r : Fin 512) (l : Fin 1024) : (k0_pay30 (k0_pay50 x0 x1 x2 x3 x4 x5 x6 x7 x8 x9 x10) (k0_pay51 x0 x1 x2 x3 x4 x5 x6 x7 x8 x9 x10) (k0_pay52 x0 x1 x2 x3 x4 x5 x6 x7 x8 x9 x10) (k0_pay53 x0 x1 x2 x3 x4 x5 x6 x7 x8 x9 x10) (k0_pay54 x0 x1 x2 x3 x4 x5 x6 x7 x8 x9 x10) (k0_pay55 x0 x1 x2 x3 x4 x5 x6 x7 x8 x9 x10) (View.ld x5 r0_7) (ix2 r l) : EReal)
    = xc A ⟨r.val % 128, by omega⟩ ⟨r.val / 128, by omega⟩ l := by
  pointwise [k0_pay30]
  exact p25 A x0 x1 x2 x3 x4 x5 x6 x7 x8 x9 x10 H r l

omit H in
/-- The product of a gate: the row against the diagonal block that column `L` lies in. -/
def gs (w : T4 1 16 64 64) (s : Fin 128) (t : Fin 4) (L : Fin 1024) : EReal :=
  ∑ y : Fin 64, w (ix4 0 ⟨L.val / 64, by omega⟩ y ⟨L.val % 64, by omega⟩) * xc A s t ⟨L.val / 64 * 64 + y.val, by omega⟩

/-- The product with a padded block of four diagonal blocks is the product with the one that the column lies in. -/
theorem gsum (s : Fin 128) (t : Fin 4) (q : Fin 4) (e : Fin 512) (L : Fin 1024) (hL : L.val = q.val * 256 + e.val % 256)
    (f : Fin 256 → EReal) (hf : ∀ x, f x = xc A s t ⟨q.val * 256 + x.val, by omega⟩) :
    (∑ x : Fin 256, f x * (x7 (ix3 q x e) : EReal)) = gs A (if e.val < 256 then A.wa else A.wx) s t L := by
  have hc := collapse f (fun y => (if e.val < 256 then A.wa else A.wx) (ix4 0 ⟨q.val * 4 + e.val / 64 % 4, by omega⟩ y ⟨e.val % 64, by omega⟩))
    ⟨e.val / 64 % 4, by omega⟩
  refine Eq.trans ?_ (hc.trans ?_)
  · refine Finset.sum_congr rfl fun x _ => ?_
    rw [H.h7]
    by_cases hx : x.val / 64 = e.val / 64 % 4
    · rw [if_pos hx, if_pos hx]
      have e1 : (⟨q.val * 4 + x.val / 64, by omega⟩ : Fin 16) = ⟨q.val * 4 + e.val / 64 % 4, by omega⟩ := Fin.ext (by (try simp only) <;> omega)
      rw [e1]
    · rw [if_neg hx, if_neg hx]
  · refine Finset.sum_congr rfl fun y _ => ?_
    rw [hf]
    have e2 : (⟨q.val * 4 + e.val / 64 % 4, by omega⟩ : Fin 16) = ⟨L.val / 64, by omega⟩ := Fin.ext (by (try simp only) <;> omega)
    have e3 : (⟨e.val % 64, by omega⟩ : Fin 64) = ⟨L.val % 64, by omega⟩ := Fin.ext (by (try simp only) <;> omega)
    rw [e2, e3]
    refine congrArg (fun z : EReal => _ * z) ?_
    exact xc_at A _ _ _ _ _ _ rfl rfl (by (try simp only) <;> omega)

/-- Columns 0 to 255 of the product of the recurrence gate. -/
theorem p58 (r : Fin 512) (l : Fin 256) (L : Fin 1024) (hL : L.val = 0 + l.val) : (k0_pay58 x0 x1 x2 x3 x4 x5 x6 x7 x8 x9 x10 (ix2 r l) : EReal)
    = gs A A.wa ⟨r.val % 128, by omega⟩ ⟨r.val / 128, by omega⟩ L := by
  pointwise [k0_pay58, k0_pay32, k0_pay31]
  refine Eq.trans (gsum A x0 x1 x2 x3 x4 x5 x6 x7 x8 x9 x10 H ⟨r.val % 128, by omega⟩ ⟨r.val / 128, by omega⟩ 0 ⟨l.val, by omega⟩ L ?_ _ (fun x => Eq.trans (p30 A x0 x1 x2 x3 x4 x5 x6 x7 x8 x9 x10 H _ _) ?_)) ?_
  · show _ = 0 * 256 + l.val % 256; omega
  · exact xc_at A _ _ _ _ _ _ rfl rfl (by show _ = 0 * 256 + x.val; (try simp only) <;> omega)
  rw [if_pos (by (try simp only) <;> omega)]

/-- Columns 0 to 255 of the product of the input gate. -/
theorem p33 (r : Fin 512) (l : Fin 256) (L : Fin 1024) (hL : L.val = 0 + l.val) : (k0_pay33 (k0_pay50 x0 x1 x2 x3 x4 x5 x6 x7 x8 x9 x10) (k0_pay51 x0 x1 x2 x3 x4 x5 x6 x7 x8 x9 x10) (k0_pay52 x0 x1 x2 x3 x4 x5 x6 x7 x8 x9 x10) (k0_pay53 x0 x1 x2 x3 x4 x5 x6 x7 x8 x9 x10) (k0_pay54 x0 x1 x2 x3 x4 x5 x6 x7 x8 x9 x10) (k0_pay55 x0 x1 x2 x3 x4 x5 x6 x7 x8 x9 x10) (View.ld x5 r0_7) (View.ld x7 r0_8) (ix2 r l) : EReal)
    = gs A A.wx ⟨r.val % 128, by omega⟩ ⟨r.val / 128, by omega⟩ L := by
  pointwise [k0_pay33, k0_pay31]
  refine Eq.trans (gsum A x0 x1 x2 x3 x4 x5 x6 x7 x8 x9 x10 H ⟨r.val % 128, by omega⟩ ⟨r.val / 128, by omega⟩ 0 ⟨256 + l.val, by omega⟩ L ?_ _ (fun x => Eq.trans (p30 A x0 x1 x2 x3 x4 x5 x6 x7 x8 x9 x10 H _ _) ?_)) ?_
  · show _ = 0 * 256 + (256 + l.val) % 256; omega
  · exact xc_at A _ _ _ _ _ _ rfl rfl (by show _ = 0 * 256 + x.val; (try simp only) <;> omega)
  rw [if_neg (by (try simp only) <;> omega)]

/-- Columns 256 to 511 of the product of the recurrence gate. -/
theorem p59 (r : Fin 512) (l : Fin 256) (L : Fin 1024) (hL : L.val = 256 + l.val) : (k0_pay59 x0 x1 x2 x3 x4 x5 x6 x7 x8 x9 x10 (ix2 r l) : EReal)
    = gs A A.wa ⟨r.val % 128, by omega⟩ ⟨r.val / 128, by omega⟩ L := by
  pointwise [k0_pay59, k0_pay35, k0_pay34]
  refine Eq.trans (gsum A x0 x1 x2 x3 x4 x5 x6 x7 x8 x9 x10 H ⟨r.val % 128, by omega⟩ ⟨r.val / 128, by omega⟩ 1 ⟨l.val, by omega⟩ L ?_ _ (fun x => Eq.trans (p30 A x0 x1 x2 x3 x4 x5 x6 x7 x8 x9 x10 H _ _) ?_)) ?_
  · show _ = 1 * 256 + l.val % 256; omega
  · exact xc_at A _ _ _ _ _ _ rfl rfl (by show _ = 1 * 256 + x.val; (try simp only) <;> omega)
  rw [if_pos (by (try simp only) <;> omega)]

/-- Columns 256 to 511 of the product of the input gate. -/
theorem p36 (r : Fin 512) (l : Fin 256) (L : Fin 1024) (hL : L.val = 256 + l.val) : (k0_pay36 (k0_pay50 x0 x1 x2 x3 x4 x5 x6 x7 x8 x9 x10) (k0_pay51 x0 x1 x2 x3 x4 x5 x6 x7 x8 x9 x10) (k0_pay52 x0 x1 x2 x3 x4 x5 x6 x7 x8 x9 x10) (k0_pay53 x0 x1 x2 x3 x4 x5 x6 x7 x8 x9 x10) (k0_pay54 x0 x1 x2 x3 x4 x5 x6 x7 x8 x9 x10) (k0_pay55 x0 x1 x2 x3 x4 x5 x6 x7 x8 x9 x10) (View.ld x5 r0_7) (View.ld x7 r0_9) (ix2 r l) : EReal)
    = gs A A.wx ⟨r.val % 128, by omega⟩ ⟨r.val / 128, by omega⟩ L := by
  pointwise [k0_pay36, k0_pay34]
  refine Eq.trans (gsum A x0 x1 x2 x3 x4 x5 x6 x7 x8 x9 x10 H ⟨r.val % 128, by omega⟩ ⟨r.val / 128, by omega⟩ 1 ⟨256 + l.val, by omega⟩ L ?_ _ (fun x => Eq.trans (p30 A x0 x1 x2 x3 x4 x5 x6 x7 x8 x9 x10 H _ _) ?_)) ?_
  · show _ = 1 * 256 + (256 + l.val) % 256; omega
  · exact xc_at A _ _ _ _ _ _ rfl rfl (by show _ = 1 * 256 + x.val; (try simp only) <;> omega)
  rw [if_neg (by (try simp only) <;> omega)]

/-- Columns 512 to 767 of the product of the recurrence gate. -/
theorem p60 (r : Fin 512) (l : Fin 256) (L : Fin 1024) (hL : L.val = 512 + l.val) : (k0_pay60 x0 x1 x2 x3 x4 x5 x6 x7 x8 x9 x10 (ix2 r l) : EReal)
    = gs A A.wa ⟨r.val % 128, by omega⟩ ⟨r.val / 128, by omega⟩ L := by
  pointwise [k0_pay60, k0_pay38, k0_pay37]
  refine Eq.trans (gsum A x0 x1 x2 x3 x4 x5 x6 x7 x8 x9 x10 H ⟨r.val % 128, by omega⟩ ⟨r.val / 128, by omega⟩ 2 ⟨l.val, by omega⟩ L ?_ _ (fun x => Eq.trans (p30 A x0 x1 x2 x3 x4 x5 x6 x7 x8 x9 x10 H _ _) ?_)) ?_
  · show _ = 2 * 256 + l.val % 256; omega
  · exact xc_at A _ _ _ _ _ _ rfl rfl (by show _ = 2 * 256 + x.val; (try simp only) <;> omega)
  rw [if_pos (by (try simp only) <;> omega)]

/-- Columns 512 to 767 of the product of the input gate. -/
theorem p39 (r : Fin 512) (l : Fin 256) (L : Fin 1024) (hL : L.val = 512 + l.val) : (k0_pay39 (k0_pay50 x0 x1 x2 x3 x4 x5 x6 x7 x8 x9 x10) (k0_pay51 x0 x1 x2 x3 x4 x5 x6 x7 x8 x9 x10) (k0_pay52 x0 x1 x2 x3 x4 x5 x6 x7 x8 x9 x10) (k0_pay53 x0 x1 x2 x3 x4 x5 x6 x7 x8 x9 x10) (k0_pay54 x0 x1 x2 x3 x4 x5 x6 x7 x8 x9 x10) (k0_pay55 x0 x1 x2 x3 x4 x5 x6 x7 x8 x9 x10) (View.ld x5 r0_7) (View.ld x7 r0_10) (ix2 r l) : EReal)
    = gs A A.wx ⟨r.val % 128, by omega⟩ ⟨r.val / 128, by omega⟩ L := by
  pointwise [k0_pay39, k0_pay37]
  refine Eq.trans (gsum A x0 x1 x2 x3 x4 x5 x6 x7 x8 x9 x10 H ⟨r.val % 128, by omega⟩ ⟨r.val / 128, by omega⟩ 2 ⟨256 + l.val, by omega⟩ L ?_ _ (fun x => Eq.trans (p30 A x0 x1 x2 x3 x4 x5 x6 x7 x8 x9 x10 H _ _) ?_)) ?_
  · show _ = 2 * 256 + (256 + l.val) % 256; omega
  · exact xc_at A _ _ _ _ _ _ rfl rfl (by show _ = 2 * 256 + x.val; (try simp only) <;> omega)
  rw [if_neg (by (try simp only) <;> omega)]

/-- The last columns of a gate's product. -/
theorem p61 (r : Fin 512) (e : Fin 512) (L : Fin 1024) (hL : L.val = 768 + e.val % 256) :
    (∑ x : Fin 256, (k0_pay61 x0 x1 x2 x3 x4 x5 x6 x7 x8 x9 x10 (ix2 r x) : EReal) * (x7 (ix3 3 x e) : EReal))
      = gs A (if e.val < 256 then A.wa else A.wx) ⟨r.val % 128, by omega⟩ ⟨r.val / 128, by omega⟩ L := by
  refine gsum A x0 x1 x2 x3 x4 x5 x6 x7 x8 x9 x10 H _ _ 3 e L hL _ (fun x => ?_)
  pointwise [k0_pay61, k0_pay40]
  exact p30 A x0 x1 x2 x3 x4 x5 x6 x7 x8 x9 x10 H _ _

/-- The logarithm of the decay. -/
theorem p42 (r : Fin 512) (l : Fin 1024) : (k0_pay42 (k0_pay56 x0 x1 x2 x3 x4 x5 x6 x7 x8 x9 x10) (k0_pay57 x0 x1 x2 x3 x4 x5 x6 x7 x8 x9 x10) (k0_pay58 x0 x1 x2 x3 x4 x5 x6 x7 x8 x9 x10) (k0_pay59 x0 x1 x2 x3 x4 x5 x6 x7 x8 x9 x10) (k0_pay60 x0 x1 x2 x3 x4 x5 x6 x7 x8 x9 x10) (k0_pay61 x0 x1 x2 x3 x4 x5 x6 x7 x8 x9 x10) (View.ld x7 r0_11) (ix2 r l) : EReal)
    = la A ⟨r.val % 128, by omega⟩ ⟨r.val / 128, by omega⟩ l := by
  pointwise [k0_pay42, k0_pay41, k0_pay56, k0_pay57, k0_pay27, k0_pay29]
  simp only [H.h8, H.h10, zero_sub]
  refine congrArg (fun z : EReal => Ideal.ofBits .f32 3238002688#32 * sp (-A.lam (ix2 0 l)) * Ideal.logistic (z + A.ba (ix2 0 l))) ?_
  by_cases h0 : l.val < 256
  · rw [dif_pos h0]
    exact p58 A x0 x1 x2 x3 x4 x5 x6 x7 x8 x9 x10 H r _ l (by (try simp only) <;> omega)
  rw [dif_neg h0]
  by_cases h1 : l.val - 256 < 256
  · rw [dif_pos h1]
    exact p59 A x0 x1 x2 x3 x4 x5 x6 x7 x8 x9 x10 H r _ l (by (try simp only) <;> omega)
  rw [dif_neg h1]
  by_cases h2 : l.val - 256 - 256 < 256
  · rw [dif_pos h2]
    exact p60 A x0 x1 x2 x3 x4 x5 x6 x7 x8 x9 x10 H r _ l (by (try simp only) <;> omega)
  rw [dif_neg h2]
  refine Eq.trans (p61 A x0 x1 x2 x3 x4 x5 x6 x7 x8 x9 x10 H r _ l (by (try simp only) <;> omega)) ?_
  rw [if_pos (by (try simp only) <;> omega)]
  rfl

/-- The decay. -/
theorem p62 (r : Fin 512) (l : Fin 1024) : (k0_pay62 x0 x1 x2 x3 x4 x5 x6 x7 x8 x9 x10 (ix2 r l) : EReal)
    = aa A ⟨r.val % 128, by omega⟩ ⟨r.val / 128, by omega⟩ l := by
  pointwise [k0_pay62, k0_pay43]
  rw [p42 A x0 x1 x2 x3 x4 x5 x6 x7 x8 x9 x10 H]
  rfl

/-- The input's term, where the logarithm of the decay is at most the bound. -/
theorem p63 (r : Fin 512) (l : Fin 1024) (hs : small A ⟨r.val % 128, by omega⟩ ⟨r.val / 128, by omega⟩ l) :
    (k0_pay63 x0 x1 x2 x3 x4 x5 x6 x7 x8 x9 x10 (ix2 r l) : EReal) = bt A ⟨r.val % 128, by omega⟩ ⟨r.val / 128, by omega⟩ l := by
  have e62 : (k0_pay43 (k0_pay56 x0 x1 x2 x3 x4 x5 x6 x7 x8 x9 x10) (k0_pay57 x0 x1 x2 x3 x4 x5 x6 x7 x8 x9 x10) (k0_pay58 x0 x1 x2 x3 x4 x5 x6 x7 x8 x9 x10) (k0_pay59 x0 x1 x2 x3 x4 x5 x6 x7 x8 x9 x10) (k0_pay60 x0 x1 x2 x3 x4 x5 x6 x7 x8 x9 x10) (k0_pay61 x0 x1 x2 x3 x4 x5 x6 x7 x8 x9 x10) (View.ld x7 r0_11) (ix2 r l) : EReal) = Ideal.exp (la A ⟨r.val % 128, by omega⟩ ⟨r.val / 128, by omega⟩ l) := p62 A x0 x1 x2 x3 x4 x5 x6 x7 x8 x9 x10 H r l
  pointwise [k0_pay63, k0_pay44, k0_pay41, k0_pay28]
  rw [e62, p42 A x0 x1 x2 x3 x4 x5 x6 x7 x8 x9 x10 H, input_factor _ hs, p25 A x0 x1 x2 x3 x4 x5 x6 x7 x8 x9 x10 H, H.h9]
  refine congrArg (fun z : EReal => Ideal.sqrt (-(Ideal.exp (Ideal.ofBits .f32 1073741824#32 * la A ⟨r.val % 128, by omega⟩ ⟨r.val / 128, by omega⟩ l) - 1)) * (Ideal.logistic (z + A.bx (ix2 0 l)) * xc A ⟨r.val % 128, by omega⟩ ⟨r.val / 128, by omega⟩ l)) ?_
  by_cases h0 : l.val < 256
  · rw [dif_pos h0]
    exact p33 A x0 x1 x2 x3 x4 x5 x6 x7 x8 x9 x10 H r _ l (by (try simp only) <;> omega)
  rw [dif_neg h0]
  by_cases h1 : l.val - 256 < 256
  · rw [dif_pos h1]
    exact p36 A x0 x1 x2 x3 x4 x5 x6 x7 x8 x9 x10 H r _ l (by (try simp only) <;> omega)
  rw [dif_neg h1]
  by_cases h2 : l.val - 256 - 256 < 256
  · rw [dif_pos h2]
    exact p39 A x0 x1 x2 x3 x4 x5 x6 x7 x8 x9 x10 H r _ l (by (try simp only) <;> omega)
  rw [dif_neg h2]
  refine Eq.trans (p61 A x0 x1 x2 x3 x4 x5 x6 x7 x8 x9 x10 H r _ l (by (try simp only) <;> omega)) ?_
  rw [if_neg (by (try simp only) <;> omega)]
  rfl

omit H in
/-- The decay at equal samples and steps. -/
theorem aa_at (s s' : Fin 128) (t t' : Fin 4) (l : Fin 1024) (hs : s.val = s'.val) (ht : t.val = t'.val) : aa A s t l = aa A s' t' l := by
  rw [Fin.ext hs, Fin.ext ht]

/-- The decay of step `t`. -/
theorem a_at (r : Fin 512) (l : Fin 1024) (s : Fin 128) (t : Fin 4) (hr : r.val = t.val * 128 + s.val) : (k0_pay62 x0 x1 x2 x3 x4 x5 x6 x7 x8 x9 x10 (ix2 r l) : EReal) = aa A s t l := by
  rw [p62 A x0 x1 x2 x3 x4 x5 x6 x7 x8 x9 x10 H]
  exact aa_at A _ _ _ _ _ (by (try simp only) <;> omega) (by (try simp only) <;> omega)

/-- The input's term of step `t`. -/
theorem b_at (r : Fin 512) (l : Fin 1024) (s : Fin 128) (t : Fin 4) (hr : r.val = t.val * 128 + s.val) (hs : small A s t l) :
    (k0_pay63 x0 x1 x2 x3 x4 x5 x6 x7 x8 x9 x10 (ix2 r l) : EReal) = bt A s t l := by
  have e1 : (⟨r.val % 128, by omega⟩ : Fin 128) = s := Fin.ext (by (try simp only) <;> omega)
  have e2 : (⟨r.val / 128, by omega⟩ : Fin 4) = t := Fin.ext (by (try simp only) <;> omega)
  have := p63 A x0 x1 x2 x3 x4 x5 x6 x7 x8 x9 x10 H r l (by rw [e1, e2]; exact hs)
  rw [this, e1, e2]

/-- The state after step 0, where the logarithms of the decay up to it are at most the bound. -/
theorem q0 (s : Fin 128) (l : Fin 1024) (m0 : small A s 0 l) :
    (k0_pay1 (k0_pay62 x0 x1 x2 x3 x4 x5 x6 x7 x8 x9 x10) (k0_pay63 x0 x1 x2 x3 x4 x5 x6 x7 x8 x9 x10) (View.ld x2 r0_12) (ix2 s l) : EReal) = h0 A s l := by
  pointwise [k0_pay1]
  rw [a_at A x0 x1 x2 x3 x4 x5 x6 x7 x8 x9 x10 H _ l s 0 (by show _ = 0 * 128 + s.val; (try simp only) <;> omega), b_at A x0 x1 x2 x3 x4 x5 x6 x7 x8 x9 x10 H _ l s 0 (by show _ = 0 * 128 + s.val; (try simp only) <;> omega) m0, H.h2]
  rfl

/-- The state after step 1, where the logarithms of the decay up to it are at most the bound. -/
theorem q1 (s : Fin 128) (l : Fin 1024) (m0 : small A s 0 l) (m1 : small A s 1 l) :
    (k0_pay2 (k0_pay62 x0 x1 x2 x3 x4 x5 x6 x7 x8 x9 x10) (k0_pay63 x0 x1 x2 x3 x4 x5 x6 x7 x8 x9 x10) (View.ld x2 r0_12) (ix2 s l) : EReal) = h1 A s l := by
  pointwise [k0_pay2]
  rw [a_at A x0 x1 x2 x3 x4 x5 x6 x7 x8 x9 x10 H _ l s 1 (by show _ = 1 * 128 + s.val; (try simp only) <;> omega), b_at A x0 x1 x2 x3 x4 x5 x6 x7 x8 x9 x10 H _ l s 1 (by show _ = 1 * 128 + s.val; (try simp only) <;> omega) m1, q0 A x0 x1 x2 x3 x4 x5 x6 x7 x8 x9 x10 H s l m0]
  rfl

/-- The state after step 2, where the logarithms of the decay up to it are at most the bound. -/
theorem q2 (s : Fin 128) (l : Fin 1024) (m0 : small A s 0 l) (m1 : small A s 1 l) (m2 : small A s 2 l) :
    (k0_pay3 (k0_pay62 x0 x1 x2 x3 x4 x5 x6 x7 x8 x9 x10) (k0_pay63 x0 x1 x2 x3 x4 x5 x6 x7 x8 x9 x10) (View.ld x2 r0_12) (ix2 s l) : EReal) = h2 A s l := by
  pointwise [k0_pay3]
  rw [a_at A x0 x1 x2 x3 x4 x5 x6 x7 x8 x9 x10 H _ l s 2 (by show _ = 2 * 128 + s.val; (try simp only) <;> omega), b_at A x0 x1 x2 x3 x4 x5 x6 x7 x8 x9 x10 H _ l s 2 (by show _ = 2 * 128 + s.val; (try simp only) <;> omega) m2, q1 A x0 x1 x2 x3 x4 x5 x6 x7 x8 x9 x10 H s l m0 m1]
  rfl

/-- The state after step 3, where the logarithms of the decay up to it are at most the bound. -/
theorem q3 (s : Fin 128) (l : Fin 1024) (m0 : small A s 0 l) (m1 : small A s 1 l) (m2 : small A s 2 l) (m3 : small A s 3 l) :
    (k0_pay4 (k0_pay62 x0 x1 x2 x3 x4 x5 x6 x7 x8 x9 x10) (k0_pay63 x0 x1 x2 x3 x4 x5 x6 x7 x8 x9 x10) (View.ld x2 r0_12) (ix2 s l) : EReal) = h3 A s l := by
  pointwise [k0_pay4]
  rw [a_at A x0 x1 x2 x3 x4 x5 x6 x7 x8 x9 x10 H _ l s 3 (by show _ = 3 * 128 + s.val; (try simp only) <;> omega), b_at A x0 x1 x2 x3 x4 x5 x6 x7 x8 x9 x10 H _ l s 3 (by show _ = 3 * 128 + s.val; (try simp only) <;> omega) m3, q2 A x0 x1 x2 x3 x4 x5 x6 x7 x8 x9 x10 H s l m0 m1 m2]
  rfl

omit H in
/-- The two offsets of a whole rectangle are zero. -/
theorem hz2 : (![0, 0] : Fin 2 → Nat) = fun _ => 0 := by
  funext i; fin_cases i <;> rfl

/-- The first result: the states, where the mask's bound holds for the steps up to the row's. -/
theorem o11 (r : Fin 512) (l : Fin 1024) (hm : ∀ t : Fin 4, t.val ≤ r.val / 128 → small A ⟨r.val % 128, by omega⟩ t l) :
    (out0_11 x0 x1 x2 x3 x4 x5 x6 x7 x8 x9 x10 (ix2 r l) : EReal) = hAll A r l := by
  have e : out0_11 x0 x1 x2 x3 x4 x5 x6 x7 x8 x9 x10 = k0_pay5 (k0_pay62 x0 x1 x2 x3 x4 x5 x6 x7 x8 x9 x10) (k0_pay63 x0 x1 x2 x3 x4 x5 x6 x7 x8 x9 x10) (View.ld x2 r0_12) := View.canon_unit_zero hz2 _ _
  rw [e]
  have hm' : ∀ (s : Fin 128) (t : Fin 4), s.val = r.val % 128 → t.val ≤ r.val / 128 → small A s t l := by
    intro s t h1 h2
    have : s = ⟨r.val % 128, by omega⟩ := Fin.ext h1
    rw [this]; exact hm t h2
  pointwise [k0_pay5]
  unfold hAll
  by_cases g0 : r.val < 128
  · rw [dif_pos g0, dif_pos g0]
    exact q0 A x0 x1 x2 x3 x4 x5 x6 x7 x8 x9 x10 H _ l (hm' _ 0 (by (try simp only) <;> omega) (by show 0 ≤ _; omega))
  rw [dif_neg g0, dif_neg g0]
  by_cases g1 : r.val - 128 < 128
  · rw [dif_pos g1, dif_pos g1]
    exact q1 A x0 x1 x2 x3 x4 x5 x6 x7 x8 x9 x10 H _ l (hm' _ 0 (by (try simp only) <;> omega) (by show 0 ≤ _; omega)) (hm' _ 1 (by (try simp only) <;> omega) (by show 1 ≤ _; omega))
  rw [dif_neg g1, dif_neg g1]
  by_cases g2 : r.val - 128 - 128 < 128
  · rw [dif_pos g2, dif_pos g2]
    exact q2 A x0 x1 x2 x3 x4 x5 x6 x7 x8 x9 x10 H _ l (hm' _ 0 (by (try simp only) <;> omega) (by show 0 ≤ _; omega)) (hm' _ 1 (by (try simp only) <;> omega) (by show 1 ≤ _; omega)) (hm' _ 2 (by (try simp only) <;> omega) (by show 2 ≤ _; omega))
  rw [dif_neg g2, dif_neg g2]
  exact q3 A x0 x1 x2 x3 x4 x5 x6 x7 x8 x9 x10 H _ l (hm' _ 0 (by (try simp only) <;> omega) (by show 0 ≤ _; omega)) (hm' _ 1 (by (try simp only) <;> omega) (by show 1 ≤ _; omega)) (hm' _ 2 (by (try simp only) <;> omega) (by show 2 ≤ _; omega)) (hm' _ 3 (by (try simp only) <;> omega) (by show 3 ≤ _; omega))

/-- The second result: the projection's columns. -/
theorem o12 (r : Fin 512) (l : Fin 3072) : (out0_12 x0 x1 x2 x3 x4 x5 x6 x7 x8 x9 x10 (ix2 r l) : EReal) = preAll A r l := by
  have e : out0_12 x0 x1 x2 x3 x4 x5 x6 x7 x8 x9 x10 = k0_pay6 (k0_pay7 (View.ld x0 r0_0) (View.ld x3 r0_1)) (View.ld x4 r0_13) := View.canon_unit_zero hz2 _ _
  rw [e]
  pointwise [k0_pay6, k0_pay7]
  simp only [H.h0, H.h3, H.h4]
  rfl

/-- The third result: the convolution's last rows. -/
theorem o13 (r : Fin 384) (l : Fin 1024) : (out0_13 x0 x1 x2 x3 x4 x5 x6 x7 x8 x9 x10 (ix2 r l) : EReal) = convAll A r l := by
  have e : out0_13 x0 x1 x2 x3 x4 x5 x6 x7 x8 x9 x10 = k0_pay26 (k0_pay48 x0 x1 x2 x3 x4 x5 x6 x7 x8 x9 x10) (k0_pay49 x0 x1 x2 x3 x4 x5 x6 x7 x8 x9 x10) (k0_pay50 x0 x1 x2 x3 x4 x5 x6 x7 x8 x9 x10) := View.canon_unit_zero hz2 _ _
  rw [e]
  have hx : ∀ (s s' : Fin 128) (u u' : Fin 7), s.val = s'.val → u.val = u'.val → xp A s u l = xp A s' u' l := by
    intro s s' u u' h1 h2
    rw [Fin.ext h1, Fin.ext h2]
  pointwise [k0_pay26]
  unfold convAll
  by_cases g0 : r.val < 128
  · rw [dif_pos g0]
    refine Eq.trans (p48 A x0 x1 x2 x3 x4 x5 x6 x7 x8 x9 x10 H _ l) (hx _ _ _ _ (by (try simp only) <;> omega) (by show 4 = _; (try simp only) <;> omega))
  rw [dif_neg g0]
  by_cases g1 : r.val - 128 < 128
  · rw [dif_pos g1]
    refine Eq.trans (p49 A x0 x1 x2 x3 x4 x5 x6 x7 x8 x9 x10 H _ l) (hx _ _ _ _ (by (try simp only) <;> omega) (by show 5 = _; (try simp only) <;> omega))
  rw [dif_neg g1]
  refine Eq.trans (p50 A x0 x1 x2 x3 x4 x5 x6 x7 x8 x9 x10 H _ l) (hx _ _ _ _ (by (try simp only) <;> omega) (by show 6 = _; (try simp only) <;> omega))

/-- The fourth result: the last state, where the bound holds for all steps. -/
theorem o14 (s : Fin 128) (l : Fin 1024) (hm : ∀ t : Fin 4, small A s t l) : (out0_14 x0 x1 x2 x3 x4 x5 x6 x7 x8 x9 x10 (ix2 s l) : EReal) = h3 A s l := by
  have e : out0_14 x0 x1 x2 x3 x4 x5 x6 x7 x8 x9 x10 = k0_pay4 (k0_pay62 x0 x1 x2 x3 x4 x5 x6 x7 x8 x9 x10) (k0_pay63 x0 x1 x2 x3 x4 x5 x6 x7 x8 x9 x10) (View.ld x2 r0_12) := View.canon_unit_zero hz2 _ _
  rw [e]
  exact q3 A x0 x1 x2 x3 x4 x5 x6 x7 x8 x9 x10 H s l (hm 0) (hm 1) (hm 2) (hm 3)

end Cert.MixerIdeal.Hand
-- ==== Proof.MixRun.lean ====
module

public import proofs.«01_k».proof.Proof.MixKernel
public import Idealize.ShloMosaic.Lib.Pipeline.ArrRel
public import Idealize.ShloMosaic.Lib.Claim
public import Idealize.ShloMosaic.Lib.StableHlo.ReadAt

@[expose] public section
set_option maxRecDepth 16384
noncomputable section
namespace Cert.MixerIdeal.Hand
open Cert.MixerIdeal Cert.MixerIdeal.Gen Cert.MixSpec Idealize.ShloMosaic Idealize.ShloMosaic.TcCoe Idealize.SL.Sem
variable (m : (ℓ : Loc nD τ sig) → Buf (Elt Ideal) ℓ)

/-- The kernel's arguments, read from a device's memory. -/
def argsK (c : Dev nD) : Args where
  x := m (c, Proc.tc.devRef main_arg0)
  cs := m (c, Proc.tc.devRef main_arg1)
  hs := m (c, Proc.tc.devRef main_arg2)
  g := m (c, Proc.tc.devRef main_arg3)
  w := m (c, Proc.tc.devRef main_arg4)
  cw := m (c, Proc.tc.devRef main_arg5)
  cb := m (c, Proc.tc.devRef main_arg6)
  wa := m (c, Proc.tc.devRef main_arg7)
  ba := m (c, Proc.tc.devRef main_arg8)
  wx := m (c, Proc.tc.devRef main_arg9)
  bx := m (c, Proc.tc.devRef main_arg10)
  lam := m (c, Proc.tc.devRef main_arg11)

/-- Input window 0's block at the one grid point is its whole array. -/
theorem blk0 (c : Dev nD) (t : Fin cfg0.N) (i : (⟨2, ![512, 1024]⟩ : Shape).Idx) : iblk m c 0 t i = V m c main_v26 i := by
  have e : ∀ t : Fin cfg0.N, ∀ a : Fin 2, win0_0.index t a = 0 := (by decide +kernel : ∀ t : Fin grid0.N, ∀ a : Fin 2, win0_0.index t a = 0)
  show V m c main_v26 _ = _
  refine congrArg _ (funext fun a => Fin.ext ?_)
  exact Pipeline.Window.rect_emb_val_of_index_zero win0_0 t a (e t a) i

/-- Input window 1's block at the one grid point is its whole array. -/
theorem blk1 (c : Dev nD) (t : Fin cfg0.N) (i : (⟨2, ![384, 1024]⟩ : Shape).Idx) : iblk m c 1 t i = V m c main_v29 i := by
  have e : ∀ t : Fin cfg0.N, ∀ a : Fin 2, win0_1.index t a = 0 := (by decide +kernel : ∀ t : Fin grid0.N, ∀ a : Fin 2, win0_1.index t a = 0)
  show V m c main_v29 _ = _
  refine congrArg _ (funext fun a => Fin.ext ?_)
  exact Pipeline.Window.rect_emb_val_of_index_zero win0_1 t a (e t a) i

/-- Input window 2's block at the one grid point is its whole array. -/
theorem blk2 (c : Dev nD) (t : Fin cfg0.N) (i : (⟨2, ![128, 1024]⟩ : Shape).Idx) : iblk m c 2 t i = V m c main_v30 i := by
  have e : ∀ t : Fin cfg0.N, ∀ a : Fin 2, win0_2.index t a = 0 := (by decide +kernel : ∀ t : Fin grid0.N, ∀ a : Fin 2, win0_2.index t a = 0)
  show V m c main_v30 _ = _
  refine congrArg _ (funext fun a => Fin.ext ?_)
  exact Pipeline.Window.rect_emb_val_of_index_zero win0_2 t a (e t a) i

/-- Input window 3's block at the one grid point is its whole array. -/
theorem blk3 (c : Dev nD) (t : Fin cfg0.N) (i : (⟨2, ![1, 1024]⟩ : Shape).Idx) : iblk m c 3 t i = V m c main_v2 i := by
  have e : ∀ t : Fin cfg0.N, ∀ a : Fin 2, win0_3.index t a = 0 := (by decide +kernel : ∀ t : Fin grid0.N, ∀ a : Fin 2, win0_3.index t a = 0)
  show V m c main_v2 _ = _
  refine congrArg _ (funext fun a => Fin.ext ?_)
  exact Pipeline.Window.rect_emb_val_of_index_zero win0_3 t a (e t a) i

/-- Input window 4's block at the one grid point is its whole array. -/
theorem blk4 (c : Dev nD) (t : Fin cfg0.N) (i : (⟨2, ![1024, 4864]⟩ : Shape).Idx) : iblk m c 4 t i = V m c main_v4 i := by
  have e : ∀ t : Fin cfg0.N, ∀ a : Fin 2, win0_4.index t a = 0 := (by decide +kernel : ∀ t : Fin grid0.N, ∀ a : Fin 2, win0_4.index t a = 0)
  show V m c main_v4 _ = _
  refine congrArg _ (funext fun a => Fin.ext ?_)
  exact Pipeline.Window.rect_emb_val_of_index_zero win0_4 t a (e t a) i

/-- Input window 5's block at the one grid point is its whole array. -/
theorem blk5 (c : Dev nD) (t : Fin cfg0.N) (i : (⟨2, ![4, 1024]⟩ : Shape).Idx) : iblk m c 5 t i = V m c main_v5 i := by
  have e : ∀ t : Fin cfg0.N, ∀ a : Fin 2, win0_5.index t a = 0 := (by decide +kernel : ∀ t : Fin grid0.N, ∀ a : Fin 2, win0_5.index t a = 0)
  show V m c main_v5 _ = _
  refine congrArg _ (funext fun a => Fin.ext ?_)
  exact Pipeline.Window.rect_emb_val_of_index_zero win0_5 t a (e t a) i

/-- Input window 6's block at the one grid point is its whole array. -/
theorem blk6 (c : Dev nD) (t : Fin cfg0.N) (i : (⟨2, ![1, 1024]⟩ : Shape).Idx) : iblk m c 6 t i = V m c main_v7 i := by
  have e : ∀ t : Fin cfg0.N, ∀ a : Fin 2, win0_6.index t a = 0 := (by decide +kernel : ∀ t : Fin grid0.N, ∀ a : Fin 2, win0_6.index t a = 0)
  show V m c main_v7 _ = _
  refine congrArg _ (funext fun a => Fin.ext ?_)
  exact Pipeline.Window.rect_emb_val_of_index_zero win0_6 t a (e t a) i

/-- Input window 7's block at the one grid point is its whole array. -/
theorem blk7 (c : Dev nD) (t : Fin cfg0.N) (i : (⟨3, ![4, 256, 512]⟩ : Shape).Idx) : iblk m c 7 t i = V m c main_v18 i := by
  have e : ∀ t : Fin cfg0.N, ∀ a : Fin 3, win0_7.index t a = 0 := (by decide +kernel : ∀ t : Fin grid0.N, ∀ a : Fin 3, win0_7.index t a = 0)
  show V m c main_v18 _ = _
  refine congrArg _ (funext fun a => Fin.ext ?_)
  exact Pipeline.Window.rect_emb_val_of_index_zero win0_7 t a (e t a) i

/-- Input window 8's block at the one grid point is its whole array. -/
theorem blk8 (c : Dev nD) (t : Fin cfg0.N) (i : (⟨2, ![1, 1024]⟩ : Shape).Idx) : iblk m c 8 t i = V m c main_v20 i := by
  have e : ∀ t : Fin cfg0.N, ∀ a : Fin 2, win0_8.index t a = 0 := (by decide +kernel : ∀ t : Fin grid0.N, ∀ a : Fin 2, win0_8.index t a = 0)
  show V m c main_v20 _ = _
  refine congrArg _ (funext fun a => Fin.ext ?_)
  exact Pipeline.Window.rect_emb_val_of_index_zero win0_8 t a (e t a) i

/-- Input window 9's block at the one grid point is its whole array. -/
theorem blk9 (c : Dev nD) (t : Fin cfg0.N) (i : (⟨2, ![1, 1024]⟩ : Shape).Idx) : iblk m c 9 t i = V m c main_v22 i := by
  have e : ∀ t : Fin cfg0.N, ∀ a : Fin 2, win0_9.index t a = 0 := (by decide +kernel : ∀ t : Fin grid0.N, ∀ a : Fin 2, win0_9.index t a = 0)
  show V m c main_v22 _ = _
  refine congrArg _ (funext fun a => Fin.ext ?_)
  exact Pipeline.Window.rect_emb_val_of_index_zero win0_9 t a (e t a) i

/-- Input window 10's block at the one grid point is its whole array. -/
theorem blk10 (c : Dev nD) (t : Fin cfg0.N) (i : (⟨2, ![1, 1024]⟩ : Shape).Idx) : iblk m c 10 t i = V m c main_v24 i := by
  have e : ∀ t : Fin cfg0.N, ∀ a : Fin 2, win0_10.index t a = 0 := (by decide +kernel : ∀ t : Fin grid0.N, ∀ a : Fin 2, win0_10.index t a = 0)
  show V m c main_v24 _ = _
  refine congrArg _ (funext fun a => Fin.ext ?_)
  exact Pipeline.Window.rect_emb_val_of_index_zero win0_10 t a (e t a) i

/-- The prepared array `v26`, read at an index. -/
theorem Vv26 (c : Dev nD) (r : Fin 512) (l : Fin 1024) : (V m c main_v26 : (⟨2, ![512, 1024]⟩ : Shape).Idx → EReal) (ix2 r l) = (argsK m c).x (ix3 ⟨r.val % 128, by omega⟩ ⟨r.val / 128, by omega⟩ l) := by
  unfold V
  after_reads_at
  rfl

/-- The prepared array `v29`, read at an index. -/
theorem Vv29 (c : Dev nD) (r : Fin 384) (l : Fin 1024) : (V m c main_v29 : (⟨2, ![384, 1024]⟩ : Shape).Idx → EReal) (ix2 r l) = (argsK m c).cs (ix4 0 ⟨r.val % 128, by omega⟩ ⟨r.val / 128, by omega⟩ l) := by
  unfold V
  after_reads_at
  rfl

/-- The prepared array `v30`, read at an index. -/
theorem Vv30 (c : Dev nD) (r : Fin 128) (l : Fin 1024) : (V m c main_v30 : (⟨2, ![128, 1024]⟩ : Shape).Idx → EReal) (ix2 r l) = (argsK m c).hs (ix3 0 r l) := by
  unfold V
  after_reads_at
  rfl

/-- The prepared array `v2`, read at an index. -/
theorem Vv2 (c : Dev nD) (l : Fin 1024) : (V m c main_v2 : (⟨2, ![1, 1024]⟩ : Shape).Idx → EReal) (ix2 0 l) = (argsK m c).g (ix2 0 l) := by
  unfold V
  after_reads_at
  rfl

/-- The prepared array `v4`, read at an index. -/
theorem Vv4 (c : Dev nD) (r : Fin 1024) (l : Fin 4864) : (V m c main_v4 : (⟨2, ![1024, 4864]⟩ : Shape).Idx → EReal) (ix2 r l) = (argsK m c).w (ix3 0 r l) := by
  unfold V
  after_reads_at
  rfl

/-- The prepared array `v5`, read at an index. -/
theorem Vv5 (c : Dev nD) (r : Fin 4) (l : Fin 1024) : (V m c main_v5 : (⟨2, ![4, 1024]⟩ : Shape).Idx → EReal) (ix2 r l) = (argsK m c).cw (ix3 0 r l) := by
  unfold V
  after_reads_at
  rfl

/-- The prepared array `v7`, read at an index. -/
theorem Vv7 (c : Dev nD) (l : Fin 1024) : (V m c main_v7 : (⟨2, ![1, 1024]⟩ : Shape).Idx → EReal) (ix2 0 l) = (argsK m c).cb (ix2 0 l) := by
  unfold V
  after_reads_at
  rfl

/-- The prepared array `v20`, read at an index. -/
theorem Vv20 (c : Dev nD) (l : Fin 1024) : (V m c main_v20 : (⟨2, ![1, 1024]⟩ : Shape).Idx → EReal) (ix2 0 l) = (argsK m c).ba (ix2 0 l) := by
  unfold V
  after_reads_at
  rfl

/-- The prepared array `v22`, read at an index. -/
theorem Vv22 (c : Dev nD) (l : Fin 1024) : (V m c main_v22 : (⟨2, ![1, 1024]⟩ : Shape).Idx → EReal) (ix2 0 l) = (argsK m c).bx (ix2 0 l) := by
  unfold V
  after_reads_at
  rfl

/-- The prepared array `v24`, read at an index. -/
theorem Vv24 (c : Dev nD) (l : Fin 1024) : (V m c main_v24 : (⟨2, ![1, 1024]⟩ : Shape).Idx → EReal) (ix2 0 l) = (argsK m c).lam (ix2 0 l) := by
  unfold V
  after_reads_at
  rfl

/-- The 4×4 diagonal, as a condition on the two coordinates. -/
theorem lit_at : ∀ a b : Fin 4, lit0 (S4x4.rowMajor (ix2 a b)) = if a = b then 1#1 else 0#1 := by
  decide +kernel

/-- A choice by the 4×4 diagonal is a choice by equality of the coordinates. -/
theorem sel_lit (a b : Fin 4) (x y : EReal) : Scalar.select (lit0 (S4x4.rowMajor (ix2 a b))) x y = if a.val = b.val then x else y := by
  rw [lit_at]
  by_cases h : a = b
  · rw [if_pos h, if_pos (congrArg Fin.val h)]; rfl
  · rw [if_neg h, if_neg (fun e => h (Fin.ext e))]; rfl

/-- The prepared block-diagonal gates, read at an index. -/
theorem Vv18 (c : Dev nD) (q : Fin 4) (d : Fin 256) (e : Fin 512) : (V m c main_v18 : S4x256x512.Idx → EReal) (ix3 q d e) =
    if d.val / 64 = e.val / 64 % 4 then
        (if e.val < 256 then (argsK m c).wa else (argsK m c).wx) (ix4 0 ⟨q.val * 4 + d.val / 64, by omega⟩ ⟨d.val % 64, by omega⟩ ⟨e.val % 64, by omega⟩)
      else (0 : EReal) := by
  unfold V
  after_reads_at
  after_reads_at
  refine (sel_lit _ _ _ _).trans ?_
  by_cases hd : d.val / 64 = e.val / 64 % 4
  · refine (if_pos hd).trans (Eq.trans ?_ (if_pos hd).symm)
    by_cases he : e.val < 256
    · have h1 : e.val / 256 < 1 := by omega
      refine (dif_pos h1).trans ?_
      exact (congrFun (if_pos he : (if e.val < 256 then (argsK m c).wa else (argsK m c).wx) = (argsK m c).wa) _).symm
    · have h1 : ¬ e.val / 256 < 1 := by omega
      refine (dif_neg h1).trans ?_
      exact (congrFun (if_neg he : (if e.val < 256 then (argsK m c).wa else (argsK m c).wx) = (argsK m c).wx) _).symm
  · refine (if_neg hd).trans (Eq.trans ?_ (if_neg hd).symm)
    show Ideal.ofBits .f32 0#32 = 0
    simp [Ideal.ofBits, Ideal.ieee]

/-- The kernel's input blocks hold its arguments. -/
theorem ins (c : Dev nD) (t : Fin cfg0.N) : Ins (argsK m c) (iblk m c 0 t) (iblk m c 1 t) (iblk m c 2 t) (iblk m c 3 t) (iblk m c 4 t) (iblk m c 5 t) (iblk m c 6 t) (iblk m c 7 t) (iblk m c 8 t) (iblk m c 9 t) (iblk m c 10 t) where
  h0 r l := (blk0 m c t _).trans (Vv26 m c r l)
  h1 r l := (blk1 m c t _).trans (Vv29 m c r l)
  h2 r l := (blk2 m c t _).trans (Vv30 m c r l)
  h3 l := (blk3 m c t _).trans (Vv2 m c l)
  h4 k n := (blk4 m c t _).trans (Vv4 m c k n)
  h5 j l := (blk5 m c t _).trans (Vv5 m c j l)
  h6 l := (blk6 m c t _).trans (Vv7 m c l)
  h7 q d e := (blk7 m c t _).trans (Vv18 m c q d e)
  h8 l := (blk8 m c t _).trans (Vv20 m c l)
  h9 l := (blk9 m c t _).trans (Vv22 m c l)
  h10 l := (blk10 m c t _).trans (Vv24 m c l)

/-- Output array main_v31_0 after the run is what the body leaves in its block. -/
theorem arr11 (c : Dev nD) : (dats m 0 c).arrAt 11 cfg0.N = out0_11 (iblk m c 0 ⟨0, by decide⟩) (iblk m c 1 ⟨0, by decide⟩) (iblk m c 2 ⟨0, by decide⟩) (iblk m c 3 ⟨0, by decide⟩) (iblk m c 4 ⟨0, by decide⟩) (iblk m c 5 ⟨0, by decide⟩) (iblk m c 6 ⟨0, by decide⟩) (iblk m c 7 ⟨0, by decide⟩) (iblk m c 8 ⟨0, by decide⟩) (iblk m c 9 ⟨0, by decide⟩) (iblk m c 10 ⟨0, by decide⟩) := by
  refine (dats m 0 c).arrAt_eq_of_after_last 11 ⟨0, by decide⟩ (by decide +kernel) _ fun j => ?_
  blk_simp
  exact congrFun (after0_11 m c ⟨0, by decide⟩) j

/-- Output array main_v31_0 after the run, read at an index. -/
theorem fin11 (c : Dev nD) (r : Fin 512) (l : Fin 1024) (hm : ∀ t : Fin 4, t.val ≤ r.val / 128 → small (argsK m c) ⟨r.val % 128, by omega⟩ t l) : ((dats m 0 c).arrAt 11 cfg0.N : (⟨2, ![512, 1024]⟩ : Shape).Idx → EReal) (ix2 r l) = hAll (argsK m c) r l :=
  (congrFun (arr11 m c) (ix2 r l)).trans (o11 (argsK m c) _ _ _ _ _ _ _ _ _ _ _ (ins m c ⟨0, by decide⟩) r l hm)

/-- Output array main_v31_1 after the run is what the body leaves in its block. -/
theorem arr12 (c : Dev nD) : (dats m 0 c).arrAt 12 cfg0.N = out0_12 (iblk m c 0 ⟨0, by decide⟩) (iblk m c 1 ⟨0, by decide⟩) (iblk m c 2 ⟨0, by decide⟩) (iblk m c 3 ⟨0, by decide⟩) (iblk m c 4 ⟨0, by decide⟩) (iblk m c 5 ⟨0, by decide⟩) (iblk m c 6 ⟨0, by decide⟩) (iblk m c 7 ⟨0, by decide⟩) (iblk m c 8 ⟨0, by decide⟩) (iblk m c 9 ⟨0, by decide⟩) (iblk m c 10 ⟨0, by decide⟩) := by
  refine (dats m 0 c).arrAt_eq_of_after_last 12 ⟨0, by decide⟩ (by decide +kernel) _ fun j => ?_
  blk_simp
  exact congrFun (after0_12 m c ⟨0, by decide⟩) j

/-- Output array main_v31_1 after the run, read at an index. -/
theorem fin12 (c : Dev nD) (r : Fin 512) (l : Fin 3072) : ((dats m 0 c).arrAt 12 cfg0.N : (⟨2, ![512, 3072]⟩ : Shape).Idx → EReal) (ix2 r l) = preAll (argsK m c) r l :=
  (congrFun (arr12 m c) (ix2 r l)).trans (o12 (argsK m c) _ _ _ _ _ _ _ _ _ _ _ (ins m c ⟨0, by decide⟩) r l)

/-- Output array main_v31_2 after the run is what the body leaves in its block. -/
theorem arr13 (c : Dev nD) : (dats m 0 c).arrAt 13 cfg0.N = out0_13 (iblk m c 0 ⟨0, by decide⟩) (iblk m c 1 ⟨0, by decide⟩) (iblk m c 2 ⟨0, by decide⟩) (iblk m c 3 ⟨0, by decide⟩) (iblk m c 4 ⟨0, by decide⟩) (iblk m c 5 ⟨0, by decide⟩) (iblk m c 6 ⟨0, by decide⟩) (iblk m c 7 ⟨0, by decide⟩) (iblk m c 8 ⟨0, by decide⟩) (iblk m c 9 ⟨0, by decide⟩) (iblk m c 10 ⟨0, by decide⟩) := by
  refine (dats m 0 c).arrAt_eq_of_after_last 13 ⟨0, by decide⟩ (by decide +kernel) _ fun j => ?_
  blk_simp
  exact congrFun (after0_13 m c ⟨0, by decide⟩) j

/-- Output array main_v31_2 after the run, read at an index. -/
theorem fin13 (c : Dev nD) (r : Fin 384) (l : Fin 1024) : ((dats m 0 c).arrAt 13 cfg0.N : (⟨2, ![384, 1024]⟩ : Shape).Idx → EReal) (ix2 r l) = convAll (argsK m c) r l :=
  (congrFun (arr13 m c) (ix2 r l)).trans (o13 (argsK m c) _ _ _ _ _ _ _ _ _ _ _ (ins m c ⟨0, by decide⟩) r l)

/-- Output array main_v31_3 after the run is what the body leaves in its block. -/
theorem arr14 (c : Dev nD) : (dats m 0 c).arrAt 14 cfg0.N = out0_14 (iblk m c 0 ⟨0, by decide⟩) (iblk m c 1 ⟨0, by decide⟩) (iblk m c 2 ⟨0, by decide⟩) (iblk m c 3 ⟨0, by decide⟩) (iblk m c 4 ⟨0, by decide⟩) (iblk m c 5 ⟨0, by decide⟩) (iblk m c 6 ⟨0, by decide⟩) (iblk m c 7 ⟨0, by decide⟩) (iblk m c 8 ⟨0, by decide⟩) (iblk m c 9 ⟨0, by decide⟩) (iblk m c 10 ⟨0, by decide⟩) := by
  refine (dats m 0 c).arrAt_eq_of_after_last 14 ⟨0, by decide⟩ (by decide +kernel) _ fun j => ?_
  blk_simp
  exact congrFun (after0_14 m c ⟨0, by decide⟩) j

/-- Output array main_v31_3 after the run, read at an index. -/
theorem fin14 (c : Dev nD) (r : Fin 128) (l : Fin 1024) (hm : ∀ t, small (argsK m c) r t l) : ((dats m 0 c).arrAt 14 cfg0.N : (⟨2, ![128, 1024]⟩ : Shape).Idx → EReal) (ix2 r l) = h3 (argsK m c) r l :=
  (congrFun (arr14 m c) (ix2 r l)).trans (o14 (argsK m c) _ _ _ _ _ _ _ _ _ _ _ (ins m c ⟨0, by decide⟩) r l hm)

end Cert.MixerIdeal.Hand
-- ==== Proof.MixRef.lean ====
module

public import proofs.«01_k».proof.Proof.Gen.MixerRefIdeal.Run
public import proofs.«01_k».proof.Proof.Gen.On_exact_decay
public import proofs.«01_k».proof.Proof.MixSpec

@[expose] public section
set_option maxRecDepth 16384
noncomputable section
namespace Cert.MixerRefIdeal.Hand
open Cert.MixerRefIdeal Cert.MixerRefIdeal.Value Cert.MixSpec Idealize.ShloMosaic Idealize.ShloMosaic.TcCoe Idealize.SL.Sem

variable (V : Valuation τ sig (Elt Ideal))

/-- The argument arrays that a valuation holds. -/
def argsR : Args where
  x := V (Proc.devRef .tc main_arg0)
  cs := V (Proc.devRef .tc main_arg1)
  hs := V (Proc.devRef .tc main_arg2)
  g := V (Proc.devRef .tc main_arg3)
  w := V (Proc.devRef .tc main_arg4)
  cw := V (Proc.devRef .tc main_arg5)
  cb := V (Proc.devRef .tc main_arg6)
  wa := V (Proc.devRef .tc main_arg7)
  ba := V (Proc.devRef .tc main_arg8)
  wx := V (Proc.devRef .tc main_arg9)
  bx := V (Proc.devRef .tc main_arg10)
  lam := V (Proc.devRef .tc main_arg11)

/-- The reference's projection, read at an index. -/
theorem v15 (s : Fin 128) (t : Fin 4) (l : Fin 4864) : (res_main_v15 (F := Ideal) V (ix3 s t l) : EReal) = pj (argsR V) s t l := by
  pointwise [res_main_v15]
  rfl

/-- The reference's convolution input, read at an index. -/
theorem v18 (s : Fin 128) (t : Fin 7) (l : Fin 1024) : (res_main_v18 (F := Ideal) V (ix3 s t l) : EReal) = xp (argsR V) s t l := by
  pointwise [res_main_v18]
  simp only [v15]
  rfl

/-- The reference's convolution, read at an index. -/
theorem v55 (s : Fin 128) (t : Fin 4) (l : Fin 1024) : (res_main_v55 (F := Ideal) V (ix3 s t l) : EReal) = xc (argsR V) s t l := by
  pointwise [res_main_v55]
  simp only [v18]
  rfl

/-- The reference's logarithm of the decay, read at an index. -/
theorem v78 (s : Fin 128) (t : Fin 4) (l : Fin 1024) : (res_main_v78 (F := Ideal) V (ix3 s t l) : EReal) = la (argsR V) s t l := by
  pointwise [res_main_v78, res_main_call0_v3, res_main_call0_cst, res_main_v72]
  simp only [v55]
  rfl

/-- The reference's decay, read at an index. -/
theorem v94 (s : Fin 128) (t : Fin 4) (l : Fin 1024) : (res_main_v94 (F := Ideal) V (ix3 s t l) : EReal) = aa (argsR V) s t l := by
  pointwise [res_main_v94]
  simp only [v78]
  rfl

/-- The reference's input term, read at an index. -/
theorem v101 (s : Fin 128) (t : Fin 4) (l : Fin 1024) : (res_main_v101 (F := Ideal) V (ix3 s t l) : EReal) = bt (argsR V) s t l := by
  pointwise [res_main_v101]
  simp only [v55, v78]
  rfl

/-- The reference's state after step 0. -/
theorem v108 (s : Fin 128) (l : Fin 1024) : (res_main_v108 (F := Ideal) V (ix2 s l) : EReal) = h0 (argsR V) s l := by
  pointwise [res_main_v108]
  simp only [v94, v101]
  rfl

/-- The reference's state after step 1. -/
theorem v114 (s : Fin 128) (l : Fin 1024) : (res_main_v114 (F := Ideal) V (ix2 s l) : EReal) = h1 (argsR V) s l := by
  pointwise [res_main_v114]
  simp only [v94, v101, v108]
  rfl

/-- The reference's state after step 2. -/
theorem v120 (s : Fin 128) (l : Fin 1024) : (res_main_v120 (F := Ideal) V (ix2 s l) : EReal) = h2 (argsR V) s l := by
  pointwise [res_main_v120]
  simp only [v94, v101, v114]
  rfl

/-- The argument arrays that a memory holds on device `c`. -/
def argsM (m : (ℓ : Loc nD τ sig) → Buf (Elt Ideal) ℓ) (c : Dev nD) : Args where
  x := m ((c.tc : Thread nD τ).loc main_arg0)
  cs := m ((c.tc : Thread nD τ).loc main_arg1)
  hs := m ((c.tc : Thread nD τ).loc main_arg2)
  g := m ((c.tc : Thread nD τ).loc main_arg3)
  w := m ((c.tc : Thread nD τ).loc main_arg4)
  cw := m ((c.tc : Thread nD τ).loc main_arg5)
  cb := m ((c.tc : Thread nD τ).loc main_arg6)
  wa := m ((c.tc : Thread nD τ).loc main_arg7)
  ba := m ((c.tc : Thread nD τ).loc main_arg8)
  wx := m ((c.tc : Thread nD τ).loc main_arg9)
  bx := m ((c.tc : Thread nD τ).loc main_arg10)
  lam := m ((c.tc : Thread nD τ).loc main_arg11)

/-- The reference runs: its four results hold the states, the projection's columns, the convolution's last rows and the last
    state, and its arguments are kept. -/
theorem runH (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      ((∀ (i : Fin 512) (l : Fin 1024), ((r.2.mem ((c.tc : Thread nD τ).loc main_v128) : T2 512 1024) (ix2 i l) : EReal) = hAll (argsM m c) i l)
      ∧ (∀ (i : Fin 512) (l : Fin 3072), ((r.2.mem ((c.tc : Thread nD τ).loc main_v132) : T2 512 3072) (ix2 i l) : EReal) = preAll (argsM m c) i l)
      ∧ (∀ (i : Fin 384) (l : Fin 1024), ((r.2.mem ((c.tc : Thread nD τ).loc main_v135) : T2 384 1024) (ix2 i l) : EReal) = convAll (argsM m c) i l)
      ∧ (∀ (i : Fin 128) (l : Fin 1024), ((r.2.mem ((c.tc : Thread nD τ).loc main_v126) : T2 128 1024) (ix2 i l) : EReal) = h3 (argsM m c) i l))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run (defs (F := Ideal)) _ _).mono (fun r h c => ?_) (run (F := Ideal) m ρ)
  refine ⟨⟨?_, ?_, ?_, ?_⟩, (h c).2.2.2.2⟩
  · intro i l
    rw [(h c).1]
    pointwise
    simp only [v108, v114, v120, v94, v101]
    rfl
  · intro i l
    rw [(h c).2.1]
    pointwise
    simp only [v15]
    rfl
  · intro i l
    rw [(h c).2.2.1]
    pointwise
    simp only [v18]
    rfl
  · intro i l
    rw [(h c).2.2.2.1]
    pointwise
    simp only [v120, v94, v101]
    rfl

/-- The mask over an array `y` of logarithms of the decay. -/
def maskOf (y : FVec Ideal Cert.On_exact_decay.S128x4x1024 .f32) :=
  let b := cmpf .ole y (broadcastInDim Cert.On_exact_decay.S128x4x1024 ![] Cert.On_exact_decay.Facts.bcast_S_S128x4x1024 (constant (F := Ideal) Cert.On_exact_decay.S_ .f32 0xBA000000#32))
  let b0 := shapeCast Cert.On_exact_decay.S128x1024 (extractStridedSlice Cert.On_exact_decay.S128x1x1024 ![0, 0, 0] b Cert.On_exact_decay.Facts.slices_S128x4x1024_S128x1x1024_0_0_0) Cert.On_exact_decay.Facts.shapeCasts_S128x1x1024_S128x1024
  let b1 := shapeCast Cert.On_exact_decay.S128x1024 (extractStridedSlice Cert.On_exact_decay.S128x1x1024 ![0, 1, 0] b Cert.On_exact_decay.Facts.slices_S128x4x1024_S128x1x1024_0_1_0) Cert.On_exact_decay.Facts.shapeCasts_S128x1x1024_S128x1024
  Cert.On_exact_decay.fn_part4 (F := Ideal) b (andi b0 b0) b1

set_option maxHeartbeats 2000000 in
/-- The mask is that over the reference's logarithm of the decay. -/
theorem mask_eq :
    Cert.On_exact_decay.fn (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      = maskOf (res_main_v78 (F := Ideal) V) := by
  unfold res_main_v78 res_main_call0_v3 res_main_call0_cst res_main_v72 res_main_v55 res_main_v18 res_main_v15
  rfl

/-- A conjunction of two bits is set exactly when both are. -/
theorem andi_one (a b : BitVec 1) : IntOp.andi a b = 1#1 ↔ a = 1#1 ∧ b = 1#1 := by
  revert a b; decide

/-- A decision's bit is set exactly when the proposition holds. -/
theorem ofBool_one (p : Prop) [Decidable p] : BitVec.ofBool (decide p) = 1#1 ↔ p := by
  by_cases h : p <;> simp [h]

/-- A set bit of the last step's mask says that every step's logarithm is at most the bound. -/
theorem mask_last (y : FVec Ideal Cert.On_exact_decay.S128x4x1024 .f32) (s : Fin 128) (l : Fin 1024) (h : (maskOf y).2.2.2 (ix2 s l) = 1#1) (t : Fin 4) :
    (y (ix3 s t l) : EReal) ≤ Ideal.ofBits .f32 3120562176#32 := by
  revert h
  simp only [maskOf, Cert.On_exact_decay.fn_part4]
  pointwise
  simp only [andi_one, ofBool_one]
  rintro ⟨⟨⟨⟨a0, -⟩, a1⟩, a2⟩, a3⟩
  match t with
  | 0 => exact a0
  | 1 => exact a1
  | 2 => exact a2
  | 3 => exact a3

/-- A set bit of the mask of all steps says that the logarithms up to that step are at most the bound. -/
theorem mask_all (y : FVec Ideal Cert.On_exact_decay.S128x4x1024 .f32) (s : Fin 512) (l : Fin 1024) (h : (maskOf y).1 (ix2 s l) = 1#1) (t : Fin 4) :
    t.val ≤ s.val / 128 → (y (ix3 ⟨s.val % 128, by omega⟩ t l) : EReal) ≤ Ideal.ofBits .f32 3120562176#32 := by
  revert h
  simp only [maskOf, Cert.On_exact_decay.fn_part4]
  pointwise
  by_cases h0 : s.val < 128
  · rw [dif_pos h0]
    simp only [andi_one, ofBool_one]
    have e : (⟨s.val % 128, by omega⟩ : Fin 128) = ⟨s.val, h0⟩ := Fin.ext (by simp only; omega)
    rw [e]
    intro a ht
    have e' : t = 0 := Fin.ext (by simp only [Fin.val_zero]; omega)
    rw [e']
    exact a.1
  rw [dif_neg h0]
  by_cases h1 : s.val - 128 < 128
  · rw [dif_pos h1]
    simp only [andi_one, ofBool_one]
    have e : (⟨s.val % 128, by omega⟩ : Fin 128) = ⟨s.val - 128, h1⟩ := Fin.ext (by simp only; omega)
    rw [e]
    intro a ht
    match t, ht with
    | 0, _ => exact a.1.1
    | 1, _ => exact a.2
    | 2, ht => exact absurd ht (by show ¬ 2 ≤ _; omega)
    | 3, ht => exact absurd ht (by show ¬ 3 ≤ _; omega)
  rw [dif_neg h1]
  by_cases h2 : s.val - 128 - 128 < 128
  · rw [dif_pos h2]
    simp only [andi_one, ofBool_one]
    have e : (⟨s.val % 128, by omega⟩ : Fin 128) = ⟨s.val - 128 - 128, h2⟩ := Fin.ext (by simp only; omega)
    rw [e]
    intro a ht
    match t, ht with
    | 0, _ => exact a.1.1.1
    | 1, _ => exact a.1.2
    | 2, _ => exact a.2
    | 3, ht => exact absurd ht (by show ¬ 3 ≤ _; omega)
  rw [dif_neg h2]
  simp only [andi_one, ofBool_one]
  have e : (⟨s.val % 128, by omega⟩ : Fin 128) = ⟨s.val - 128 - 128 - 128, by omega⟩ := Fin.ext (by simp only; omega)
  rw [e]
  intro a ht
  match t with
  | 0 => exact a.1.1.1.1
  | 1 => exact a.1.1.2
  | 2 => exact a.1.2
  | 3 => exact a.2

end Cert.MixerRefIdeal.Hand
-- ==== Proof.MixClaim.lean ====
module

public import proofs.«01_k».proof.Defs
public import proofs.«01_k».proof.Proof.Gen.Mixer.Frame
public import proofs.«01_k».proof.Proof.MixRun
public import proofs.«01_k».proof.Proof.MixRef
public import Idealize.ShloMosaic.Lib.Quiescent

@[expose] public section
set_option maxRecDepth 16384
noncomputable section
namespace Cert.MixClaim
open Cert.MixSpec Idealize.ShloMosaic Idealize.ShloMosaic.TcCoe Idealize.SL.Sem

/-- Where the mask of the first result is set, every step up to the row's has a log of the decay below the bound. -/
theorem small_all (A : Args) (V : Valuation Cert.MixerRefIdeal.τ Cert.MixerRefIdeal.sig (Elt Ideal)) (hA : Cert.MixerRefIdeal.Hand.argsR V = A) (s : Fin 512) (l : Fin 1024)
    (h : (Cert.On_exact_decay.fn (F := Ideal) A.x A.cs A.hs A.g A.w A.cw A.cb A.wa A.ba A.wx A.bx A.lam).1 (ix2 s l) = 1#1) (t : Fin 4) (ht : t.val ≤ s.val / 128) :
    small A ⟨s.val % 128, by omega⟩ t l := by
  subst hA
  have h' : (Cert.MixerRefIdeal.Hand.maskOf (Cert.MixerRefIdeal.Value.res_main_v78 (F := Ideal) V)).1 (ix2 s l) = 1#1 :=
    (congrArg (fun z => z.1 (ix2 s l)) (Cert.MixerRefIdeal.Hand.mask_eq V)).symm.trans h
  exact le_of_eq_of_le (Cert.MixerRefIdeal.Hand.v78 V _ t l).symm (Cert.MixerRefIdeal.Hand.mask_all _ s l h' t ht)

/-- Where the mask of the last result is set, every step has a log of the decay below the bound. -/
theorem small_last (A : Args) (V : Valuation Cert.MixerRefIdeal.τ Cert.MixerRefIdeal.sig (Elt Ideal)) (hA : Cert.MixerRefIdeal.Hand.argsR V = A) (s : Fin 128) (l : Fin 1024)
    (h : (Cert.On_exact_decay.fn (F := Ideal) A.x A.cs A.hs A.g A.w A.cw A.cb A.wa A.ba A.wx A.bx A.lam).2.2.2 (ix2 s l) = 1#1) (t : Fin 4) :
    small A s t l := by
  subst hA
  have h' : (Cert.MixerRefIdeal.Hand.maskOf (Cert.MixerRefIdeal.Value.res_main_v78 (F := Ideal) V)).2.2.2 (ix2 s l) = 1#1 :=
    (congrArg (fun z => z.2.2.2 (ix2 s l)) (Cert.MixerRefIdeal.Hand.mask_eq V)).symm.trans h
  exact le_of_eq_of_le (Cert.MixerRefIdeal.Hand.v78 V _ t l).symm (Cert.MixerRefIdeal.Hand.mask_last _ s l h' t)

/-- The decode mixer's frame over the bit-exact floats. -/
theorem frame_p : Cert.quiescent_Mixer := fun m ρ _ => Cert.Mixer.Gen.frame m ρ

/-- The decode mixer's frame at the extended reals. -/
theorem frame_pi : Cert.quiescent_MixerIdeal := fun m ρ _ => Cert.MixerIdeal.Gen.frame m ρ

/-- The reference's frame at the extended reals. -/
theorem frame_ri : Cert.quiescent_MixerRefIdeal := fun m ρ _ =>
  (θ_run (Cert.MixerRefIdeal.defs (F := Ideal)) _ _).mono (fun r h => ⟨fun c => (h c).2, sem_eq_zero_of_no_sems (by decide) r.2⟩)
    (Cert.MixerRefIdeal.Hand.runH m ρ)

open Cert.MixerIdeal Cert.MixerIdeal.Gen in
/-- After the kernel's run an argument is as launched. -/
theorem kept (m : (ℓ : Loc Cert.MixerIdeal.nD Cert.MixerIdeal.τ Cert.MixerIdeal.sig) → Buf (Elt Ideal) ℓ) (r : PUnit × MemSt Cert.MixerIdeal.nD Cert.MixerIdeal.τ Cert.MixerIdeal.sig (Elt Ideal)) (h : Pipeline.FramePost cfgs (dats m) 0 (V m) r) (c : Dev Cert.MixerIdeal.nD) :
    r.2.mem ((c.tc : Thread Cert.MixerIdeal.nD Cert.MixerIdeal.τ).loc main_arg0) = m ((c.tc : Thread Cert.MixerIdeal.nD Cert.MixerIdeal.τ).loc main_arg0)
    ∧ r.2.mem ((c.tc : Thread Cert.MixerIdeal.nD Cert.MixerIdeal.τ).loc main_arg1) = m ((c.tc : Thread Cert.MixerIdeal.nD Cert.MixerIdeal.τ).loc main_arg1)
    ∧ r.2.mem ((c.tc : Thread Cert.MixerIdeal.nD Cert.MixerIdeal.τ).loc main_arg2) = m ((c.tc : Thread Cert.MixerIdeal.nD Cert.MixerIdeal.τ).loc main_arg2)
    ∧ r.2.mem ((c.tc : Thread Cert.MixerIdeal.nD Cert.MixerIdeal.τ).loc main_arg3) = m ((c.tc : Thread Cert.MixerIdeal.nD Cert.MixerIdeal.τ).loc main_arg3)
    ∧ r.2.mem ((c.tc : Thread Cert.MixerIdeal.nD Cert.MixerIdeal.τ).loc main_arg4) = m ((c.tc : Thread Cert.MixerIdeal.nD Cert.MixerIdeal.τ).loc main_arg4)
    ∧ r.2.mem ((c.tc : Thread Cert.MixerIdeal.nD Cert.MixerIdeal.τ).loc main_arg5) = m ((c.tc : Thread Cert.MixerIdeal.nD Cert.MixerIdeal.τ).loc main_arg5)
    ∧ r.2.mem ((c.tc : Thread Cert.MixerIdeal.nD Cert.MixerIdeal.τ).loc main_arg6) = m ((c.tc : Thread Cert.MixerIdeal.nD Cert.MixerIdeal.τ).loc main_arg6)
    ∧ r.2.mem ((c.tc : Thread Cert.MixerIdeal.nD Cert.MixerIdeal.τ).loc main_arg7) = m ((c.tc : Thread Cert.MixerIdeal.nD Cert.MixerIdeal.τ).loc main_arg7)
    ∧ r.2.mem ((c.tc : Thread Cert.MixerIdeal.nD Cert.MixerIdeal.τ).loc main_arg8) = m ((c.tc : Thread Cert.MixerIdeal.nD Cert.MixerIdeal.τ).loc main_arg8)
    ∧ r.2.mem ((c.tc : Thread Cert.MixerIdeal.nD Cert.MixerIdeal.τ).loc main_arg9) = m ((c.tc : Thread Cert.MixerIdeal.nD Cert.MixerIdeal.τ).loc main_arg9)
    ∧ r.2.mem ((c.tc : Thread Cert.MixerIdeal.nD Cert.MixerIdeal.τ).loc main_arg10) = m ((c.tc : Thread Cert.MixerIdeal.nD Cert.MixerIdeal.τ).loc main_arg10)
    ∧ r.2.mem ((c.tc : Thread Cert.MixerIdeal.nD Cert.MixerIdeal.τ).loc main_arg11) = m ((c.tc : Thread Cert.MixerIdeal.nD Cert.MixerIdeal.τ).loc main_arg11) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).2 main_arg10 (Pipeline.mem_restRefs_of main_arg10 (by decide) (by decide))).trans (V_main_arg10 m c),
   ((h c).2 main_arg11 (Pipeline.mem_restRefs_of main_arg11 (by decide) (by decide))).trans (V_main_arg11 m c)⟩

/-- The decode mixer and its reference have equal results where the decays are not close to one. -/
theorem algebraic : Cert.algebraic_MixerIdeal_MixerRefIdeal_on_exact_decay := by
  intro m g m' g' _ hag
  have hA : ∀ c, Cert.MixerRefIdeal.Hand.argsR (StableHlo.launchContents m' c) = Cert.MixerIdeal.Hand.argsK m c := by
    intro c
    unfold Cert.MixerRefIdeal.Hand.argsR Cert.MixerIdeal.Hand.argsK
    rw [Args.mk.injEq]
    exact hag c
  have hA' : ∀ c, Cert.MixerRefIdeal.Hand.argsM m' c = Cert.MixerIdeal.Hand.argsK m c := hA
  refine ⟨fun c => (fun i : (⟨2, ![512, 1024]⟩ : Shape).Idx => hAll (Cert.MixerIdeal.Hand.argsK m c) (i 0) (i 1)),
    fun c => (fun i : (⟨2, ![512, 3072]⟩ : Shape).Idx => preAll (Cert.MixerIdeal.Hand.argsK m c) (i 0) (i 1)),
    fun c => (fun i : (⟨2, ![384, 1024]⟩ : Shape).Idx => convAll (Cert.MixerIdeal.Hand.argsK m c) (i 0) (i 1)),
    fun c => (fun i : (⟨2, ![128, 1024]⟩ : Shape).Idx => h3 (Cert.MixerIdeal.Hand.argsK m c) (i 0) (i 1)), ?_, ?_⟩
  · refine (θ_run (Cert.MixerIdeal.defs (F := Ideal)) _ _).mono (fun r h c => ⟨?_, ?_, ?_, ?_, kept m r h c⟩) (Cert.MixerIdeal.Gen.run_main (F := Ideal) m g)
    · intro i hm
      obtain ⟨a, b, rfl⟩ : ∃ (a : Fin 512) (b : Fin 1024), i = ix2 a b := ⟨i 0, i 1, eq_ix2 i⟩
      exact (congrFun ((h c).1 11) (ix2 a b)).trans (Cert.MixerIdeal.Hand.fin11 m c a b (small_all _ _ (hA c) a b hm))
    · intro i _
      obtain ⟨a, b, rfl⟩ : ∃ (a : Fin 512) (b : Fin 3072), i = ix2 a b := ⟨i 0, i 1, eq_ix2 i⟩
      exact (congrFun ((h c).1 12) (ix2 a b)).trans (Cert.MixerIdeal.Hand.fin12 m c a b)
    · intro i _
      obtain ⟨a, b, rfl⟩ : ∃ (a : Fin 384) (b : Fin 1024), i = ix2 a b := ⟨i 0, i 1, eq_ix2 i⟩
      exact (congrFun ((h c).1 13) (ix2 a b)).trans (Cert.MixerIdeal.Hand.fin13 m c a b)
    · intro i hm
      obtain ⟨a, b, rfl⟩ : ∃ (a : Fin 128) (b : Fin 1024), i = ix2 a b := ⟨i 0, i 1, eq_ix2 i⟩
      exact (congrFun ((h c).1 14) (ix2 a b)).trans (Cert.MixerIdeal.Hand.fin14 m c a b (small_last _ _ (hA c) a b hm))
  · refine (θ_run (Cert.MixerRefIdeal.defs (F := Ideal)) _ _).mono (fun r h c => ⟨?_, ?_, ?_, ?_, (h c).2⟩) (Cert.MixerRefIdeal.Hand.runH m' g')
    all_goals have hc := h c; rw [hA' c] at hc
    · intro i _
      obtain ⟨a, b, rfl⟩ : ∃ (a : Fin 512) (b : Fin 1024), i = ix2 a b := ⟨i 0, i 1, eq_ix2 i⟩
      exact hc.1.1 a b
    · intro i _
      obtain ⟨a, b, rfl⟩ : ∃ (a : Fin 512) (b : Fin 3072), i = ix2 a b := ⟨i 0, i 1, eq_ix2 i⟩
      exact hc.1.2.1 a b
    · intro i _
      obtain ⟨a, b, rfl⟩ : ∃ (a : Fin 384) (b : Fin 1024), i = ix2 a b := ⟨i 0, i 1, eq_ix2 i⟩
      exact hc.1.2.2.1 a b
    · intro i _
      obtain ⟨a, b, rfl⟩ : ∃ (a : Fin 128) (b : Fin 1024), i = ix2 a b := ⟨i 0, i 1, eq_ix2 i⟩
      exact hc.1.2.2.2 a b

end Cert.MixClaim
-- ==== Proof.IdChRows.lean ====
module

public import proofs.«01_k».proof.Proof.Gen.ChannelIdeal.Skeleton
public import Idealize.ShloMosaic.Lib.Pipeline.FrameBody
public import Idealize.ShloMosaic.Lib.Pipeline.ValueKit

@[expose] public section

set_option maxRecDepth 16384

noncomputable section

namespace Cert.ChanIdeal

open Cert.ChannelIdeal Cert.ChannelIdeal.Gen
open Idealize.ShloMosaic Idealize.ShloMosaic.TcCoe

variable {F : FTy → Type} [FloatOps F]

theorem offs_zero : (![0, 0] : Fin 2 → Nat) = fun _ => 0 := by funext a; fin_cases a <;> rfl

/-- A buffer overwritten whole reads as what was written. -/
theorem read_whole {κ : Kind} {sp : Space} {S : Shape} {e : EltTy} (v : View sig κ sp S e)
    (f : v.ty.Contents (Elt F)) (p : S.Idx → Elt F e) :
    v.read (Elt F) (v.writes (Elt F) f [⟨Rect.whole S, p⟩]) = p :=
  (View.read_writes_eq_canon v f _ fun y => ⟨_, List.mem_singleton.2 rfl, by simp [Rect.set_whole]⟩).trans
    (View.canon_unit_zero (off := fun _ => 0) rfl (fun a => by simp) p)

/-- A buffer of 512 rows stored whole reads as what was stored. -/
theorem read_rows {κ : Kind} {sp : Space} (v : View sig κ sp S512x1024 .f32)
    (f : v.ty.Contents (Elt F)) (p : Vec F S512x1024 .f32) :
    v.read (Elt F) (v.writes (Elt F) f [⟨Rect.unit (s := S512x1024) ![0, 0] S512x1024.size inb_S512x1024_S512x1024_0_0, p⟩]) = p :=
  (View.read_writes_eq_canon v f _ (fun y =>
    View.cover_of_tiled [(⟨Rect.unit (s := S512x1024) ![0, 0] S512x1024.size inb_S512x1024_S512x1024_0_0, p⟩ :
      View.Piece (Elt F) S512x1024 .f32)] S512x1024.size (by rfl) y)).trans (View.canon_unit_zero offs_zero _ p)

/-- The gated mix of the prompt rows of a block. -/
def mixFst (x1 : Vec F S512x1024 .bf16) (x2 : Vec F S512x512 .bf16) (x3 : Vec F S512x3072 .bf16) (x10 : Vec F S512x1024 .bf16) (x11 : Vec F S1024x1024 .bf16) : FVec F S512x1024 .bf16 :=
  k0_pay3 (View.ld x3 (Rect.unit (s := S512x3072) ![0, 0] S512x3072.size inb_S512x3072_S512x3072_0_0)) (View.ld x1 (Rect.unit (s := S512x1024) ![0, 0] S512x1024.size inb_S512x1024_S512x1024_0_0)) (View.ld x11 (Rect.unit (s := S1024x1024) ![0, 0] S1024x1024.size inb_S1024x1024_S1024x1024_0_0)) (View.ld x2 (Rect.unit (s := S512x512) ![0, 0] S512x512.size inb_S512x512_S512x512_0_0)) (View.ld x10 (Rect.unit (s := S512x1024) ![0, 0] S512x1024.size inb_S512x1024_S512x1024_0_0))

/-- The gated mix of the sample rows of a block. -/
def mixSnd (x1 : Vec F S512x1024 .bf16) (x2 : Vec F S512x512 .bf16) (x3 : Vec F S512x3072 .bf16) (x10 : Vec F S512x1024 .bf16) (x11 : Vec F S1024x1024 .bf16) : FVec F S512x1024 .bf16 :=
  k0_pay12 (View.ld x3 (Rect.unit (s := S512x3072) ![0, 0] S512x3072.size inb_S512x3072_S512x3072_0_0)) (View.ld x1 (Rect.unit (s := S512x1024) ![0, 0] S512x1024.size inb_S512x1024_S512x1024_0_0)) (View.ld x11 (Rect.unit (s := S1024x1024) ![0, 0] S1024x1024.size inb_S1024x1024_S1024x1024_0_0)) (View.ld x2 (Rect.unit (s := S512x512) ![0, 0] S512x512.size inb_S512x512_S512x512_0_0)) (View.ld x10 (Rect.unit (s := S512x1024) ![0, 0] S512x1024.size inb_S512x1024_S512x1024_0_0))

/-- The normalised prompt rows that enter the dense layer. -/
def normFst (x0 : Vec F S512x1024 .f32) (x1 : Vec F S512x1024 .bf16) (x2 : Vec F S512x512 .bf16) (x3 : Vec F S512x3072 .bf16) (x10 : Vec F S512x1024 .bf16) (x11 : Vec F S1024x1024 .bf16) (x12 : Vec F S1024x1024 .bf16) (x13 : Vec F S1x1024 .f32) : FVec F S512x1024 .bf16 :=
  k0_pay6 (mixFst x1 x2 x3 x10 x11) (k0_pay4 (View.ld x0 (Rect.unit (s := S512x1024) ![0, 0] S512x1024.size inb_S512x1024_S512x1024_0_0))) (View.ld x12 (Rect.unit (s := S1024x1024) ![0, 0] S1024x1024.size inb_S1024x1024_S1024x1024_0_0)) (View.ld x13 (Rect.unit (s := S1x1024) ![0, 0] S1x1024.size inb_S1x1024_S1x1024_0_0))

/-- The prompt rows after the first chunk of the dense layer. -/
def accFst1 (x0 : Vec F S512x1024 .f32) (x1 : Vec F S512x1024 .bf16) (x2 : Vec F S512x512 .bf16) (x3 : Vec F S512x3072 .bf16) (x10 : Vec F S512x1024 .bf16) (x11 : Vec F S1024x1024 .bf16) (x12 : Vec F S1024x1024 .bf16) (x13 : Vec F S1x1024 .f32) (wu : Vec F S1024x4096 .bf16) (wd : Vec F S4096x1024 .bf16) : FVec F S512x1024 .f32 :=
  k0_pay7 (mixFst x1 x2 x3 x10 x11) (k0_pay4 (View.ld x0 (Rect.unit (s := S512x1024) ![0, 0] S512x1024.size inb_S512x1024_S512x1024_0_0))) (View.ld x12 (Rect.unit (s := S1024x1024) ![0, 0] S1024x1024.size inb_S1024x1024_S1024x1024_0_0)) (View.ld x13 (Rect.unit (s := S1x1024) ![0, 0] S1x1024.size inb_S1x1024_S1x1024_0_0)) (View.ld wu (Rect.unit (s := S1024x4096) ![0, 0] S1024x1024.size inb_S1024x4096_S1024x1024_0_0)) (View.ld wd (Rect.unit (s := S4096x1024) ![0, 0] S1024x1024.size inb_S4096x1024_S1024x1024_0_0))

/-- The second chunk of the hidden layer of the prompt rows. -/
def hidFst (x0 : Vec F S512x1024 .f32) (x1 : Vec F S512x1024 .bf16) (x2 : Vec F S512x512 .bf16) (x3 : Vec F S512x3072 .bf16) (x10 : Vec F S512x1024 .bf16) (x11 : Vec F S1024x1024 .bf16) (x12 : Vec F S1024x1024 .bf16) (x13 : Vec F S1x1024 .f32) (wu : Vec F S1024x4096 .bf16) (wd : Vec F S4096x1024 .bf16) : FVec F S512x1024 .bf16 :=
  k0_pay8 (mixFst x1 x2 x3 x10 x11) (k0_pay4 (View.ld x0 (Rect.unit (s := S512x1024) ![0, 0] S512x1024.size inb_S512x1024_S512x1024_0_0))) (View.ld x12 (Rect.unit (s := S1024x1024) ![0, 0] S1024x1024.size inb_S1024x1024_S1024x1024_0_0)) (View.ld x13 (Rect.unit (s := S1x1024) ![0, 0] S1x1024.size inb_S1x1024_S1x1024_0_0)) (View.ld wu (Rect.unit (s := S1024x4096) ![0, 1024] S1024x1024.size inb_S1024x4096_S1024x1024_0_1024))

/-- The prompt rows after the dense layer. -/
def accFst (x0 : Vec F S512x1024 .f32) (x1 : Vec F S512x1024 .bf16) (x2 : Vec F S512x512 .bf16) (x3 : Vec F S512x3072 .bf16) (x10 : Vec F S512x1024 .bf16) (x11 : Vec F S1024x1024 .bf16) (x12 : Vec F S1024x1024 .bf16) (x13 : Vec F S1x1024 .f32) (wu : Vec F S1024x4096 .bf16) (wd : Vec F S4096x1024 .bf16) : FVec F S512x1024 .f32 :=
  k0_pay9 (normFst x0 x1 x2 x3 x10 x11 x12 x13) (accFst1 x0 x1 x2 x3 x10 x11 x12 x13 wu wd) (hidFst x0 x1 x2 x3 x10 x11 x12 x13 wu wd) (View.ld wd (Rect.unit (s := S4096x1024) ![1024, 0] S1024x1024.size inb_S4096x1024_S1024x1024_1024_0)) (View.ld wu (Rect.unit (s := S1024x4096) ![0, 2048] S1024x1024.size inb_S1024x4096_S1024x1024_0_2048)) (View.ld wd (Rect.unit (s := S4096x1024) ![2048, 0] S1024x1024.size inb_S4096x1024_S1024x1024_2048_0)) (View.ld wu (Rect.unit (s := S1024x4096) ![0, 3072] S1024x1024.size inb_S1024x4096_S1024x1024_0_3072)) (View.ld wd (Rect.unit (s := S4096x1024) ![3072, 0] S1024x1024.size inb_S4096x1024_S1024x1024_3072_0))

/-- The normalised prompt rows that enter the gate. -/
def gateInFst (x0 : Vec F S512x1024 .f32) (x1 : Vec F S512x1024 .bf16) (x2 : Vec F S512x512 .bf16) (x3 : Vec F S512x3072 .bf16) (x10 : Vec F S512x1024 .bf16) (x11 : Vec F S1024x1024 .bf16) (x12 : Vec F S1024x1024 .bf16) (x13 : Vec F S1x1024 .f32) (x14 : Vec F S1x1024 .f32) (wu : Vec F S1024x4096 .bf16) (wd : Vec F S4096x1024 .bf16) : FVec F S512x1024 .bf16 :=
  k0_pay10 (normFst x0 x1 x2 x3 x10 x11 x12 x13) (accFst1 x0 x1 x2 x3 x10 x11 x12 x13 wu wd) (hidFst x0 x1 x2 x3 x10 x11 x12 x13 wu wd) (View.ld wd (Rect.unit (s := S4096x1024) ![1024, 0] S1024x1024.size inb_S4096x1024_S1024x1024_1024_0)) (View.ld wu (Rect.unit (s := S1024x4096) ![0, 2048] S1024x1024.size inb_S1024x4096_S1024x1024_0_2048)) (View.ld wd (Rect.unit (s := S4096x1024) ![2048, 0] S1024x1024.size inb_S4096x1024_S1024x1024_2048_0)) (View.ld wu (Rect.unit (s := S1024x4096) ![0, 3072] S1024x1024.size inb_S1024x4096_S1024x1024_0_3072)) (View.ld wd (Rect.unit (s := S4096x1024) ![3072, 0] S1024x1024.size inb_S4096x1024_S1024x1024_3072_0)) (View.ld x14 (Rect.unit (s := S1x1024) ![0, 0] S1x1024.size inb_S1x1024_S1x1024_0_0))

/-- A block of the prompt rows as the body leaves it, from the blocks and the two dense matrices it reads. -/
def rowsFst (x0 : Vec F S512x1024 .f32) (x1 : Vec F S512x1024 .bf16) (x2 : Vec F S512x512 .bf16) (x3 : Vec F S512x3072 .bf16) (x4 : Vec F S512x256 .f32) (x10 : Vec F S512x1024 .bf16) (x11 x12 : Vec F S1024x1024 .bf16) (x13 x14 : Vec F S1x1024 .f32) (x15 : Vec F S1024x1024 .bf16) (x16 : Vec F S256x1024 .bf16) (wu : Vec F S1024x4096 .bf16) (wd : Vec F S4096x1024 .bf16) : Vec F S512x1024 .f32 :=
  k0_pay1 (accFst x0 x1 x2 x3 x10 x11 x12 x13 wu wd) (gateInFst x0 x1 x2 x3 x10 x11 x12 x13 x14 wu wd) (k0_pay11 (View.ld x15 (Rect.unit (s := S1024x1024) ![0, 0] S1024x1024.size inb_S1024x1024_S1024x1024_0_0))) (constant S512x1024 .f32 0x00000000#32) (View.ld x4 (Rect.unit (s := S512x256) ![0, 0] S512x256.size inb_S512x256_S512x256_0_0)) (View.ld x16 (Rect.unit (s := S256x1024) ![0, 0] S256x1024.size inb_S256x1024_S256x1024_0_0))

/-- The normalised sample rows that enter the dense layer. -/
def normSnd (x0 : Vec F S512x1024 .f32) (x1 : Vec F S512x1024 .bf16) (x2 : Vec F S512x512 .bf16) (x3 : Vec F S512x3072 .bf16) (x10 : Vec F S512x1024 .bf16) (x11 : Vec F S1024x1024 .bf16) (x12 : Vec F S1024x1024 .bf16) (x13 : Vec F S1x1024 .f32) : FVec F S512x1024 .bf16 :=
  k0_pay15 (mixSnd x1 x2 x3 x10 x11) (k0_pay13 (View.ld x0 (Rect.unit (s := S512x1024) ![0, 0] S512x1024.size inb_S512x1024_S512x1024_0_0))) (View.ld x12 (Rect.unit (s := S1024x1024) ![0, 0] S1024x1024.size inb_S1024x1024_S1024x1024_0_0)) (View.ld x13 (Rect.unit (s := S1x1024) ![0, 0] S1x1024.size inb_S1x1024_S1x1024_0_0))

/-- The sample rows after two chunks of the dense layer. -/
def accSnd2 (x0 : Vec F S512x1024 .f32) (x1 : Vec F S512x1024 .bf16) (x2 : Vec F S512x512 .bf16) (x3 : Vec F S512x3072 .bf16) (x10 : Vec F S512x1024 .bf16) (x11 : Vec F S1024x1024 .bf16) (x12 : Vec F S1024x1024 .bf16) (x13 : Vec F S1x1024 .f32) (wu : Vec F S1024x4096 .bf16) (wd : Vec F S4096x1024 .bf16) : FVec F S512x1024 .f32 :=
  k0_pay16 (mixSnd x1 x2 x3 x10 x11) (k0_pay13 (View.ld x0 (Rect.unit (s := S512x1024) ![0, 0] S512x1024.size inb_S512x1024_S512x1024_0_0))) (View.ld x12 (Rect.unit (s := S1024x1024) ![0, 0] S1024x1024.size inb_S1024x1024_S1024x1024_0_0)) (View.ld x13 (Rect.unit (s := S1x1024) ![0, 0] S1x1024.size inb_S1x1024_S1x1024_0_0)) (View.ld wu (Rect.unit (s := S1024x4096) ![0, 0] S1024x1024.size inb_S1024x4096_S1024x1024_0_0)) (View.ld wd (Rect.unit (s := S4096x1024) ![0, 0] S1024x1024.size inb_S4096x1024_S1024x1024_0_0)) (View.ld wu (Rect.unit (s := S1024x4096) ![0, 1024] S1024x1024.size inb_S1024x4096_S1024x1024_0_1024)) (View.ld wd (Rect.unit (s := S4096x1024) ![1024, 0] S1024x1024.size inb_S4096x1024_S1024x1024_1024_0))

/-- The sample rows after the dense layer. -/
def accSnd (x0 : Vec F S512x1024 .f32) (x1 : Vec F S512x1024 .bf16) (x2 : Vec F S512x512 .bf16) (x3 : Vec F S512x3072 .bf16) (x10 : Vec F S512x1024 .bf16) (x11 : Vec F S1024x1024 .bf16) (x12 : Vec F S1024x1024 .bf16) (x13 : Vec F S1x1024 .f32) (wu : Vec F S1024x4096 .bf16) (wd : Vec F S4096x1024 .bf16) : FVec F S512x1024 .f32 :=
  k0_pay17 (normSnd x0 x1 x2 x3 x10 x11 x12 x13) (accSnd2 x0 x1 x2 x3 x10 x11 x12 x13 wu wd) (View.ld wu (Rect.unit (s := S1024x4096) ![0, 2048] S1024x1024.size inb_S1024x4096_S1024x1024_0_2048)) (View.ld wd (Rect.unit (s := S4096x1024) ![2048, 0] S1024x1024.size inb_S4096x1024_S1024x1024_2048_0)) (View.ld wu (Rect.unit (s := S1024x4096) ![0, 3072] S1024x1024.size inb_S1024x4096_S1024x1024_0_3072)) (View.ld wd (Rect.unit (s := S4096x1024) ![3072, 0] S1024x1024.size inb_S4096x1024_S1024x1024_3072_0))

/-- The gate of the sample rows before its logistic function. -/
def gateSnd (x0 : Vec F S512x1024 .f32) (x1 : Vec F S512x1024 .bf16) (x2 : Vec F S512x512 .bf16) (x3 : Vec F S512x3072 .bf16) (x10 : Vec F S512x1024 .bf16) (x11 : Vec F S1024x1024 .bf16) (x12 : Vec F S1024x1024 .bf16) (x13 : Vec F S1x1024 .f32) (x14 : Vec F S1x1024 .f32) (x15 : Vec F S1024x1024 .bf16) (wu : Vec F S1024x4096 .bf16) (wd : Vec F S4096x1024 .bf16) : FVec F S512x1024 .f32 :=
  k0_pay18 (normSnd x0 x1 x2 x3 x10 x11 x12 x13) (accSnd2 x0 x1 x2 x3 x10 x11 x12 x13 wu wd) (View.ld wu (Rect.unit (s := S1024x4096) ![0, 2048] S1024x1024.size inb_S1024x4096_S1024x1024_0_2048)) (View.ld wd (Rect.unit (s := S4096x1024) ![2048, 0] S1024x1024.size inb_S4096x1024_S1024x1024_2048_0)) (View.ld wu (Rect.unit (s := S1024x4096) ![0, 3072] S1024x1024.size inb_S1024x4096_S1024x1024_0_3072)) (View.ld wd (Rect.unit (s := S4096x1024) ![3072, 0] S1024x1024.size inb_S4096x1024_S1024x1024_3072_0)) (View.ld x14 (Rect.unit (s := S1x1024) ![0, 0] S1x1024.size inb_S1x1024_S1x1024_0_0)) (View.ld x15 (Rect.unit (s := S1024x1024) ![0, 0] S1024x1024.size inb_S1024x1024_S1024x1024_0_0))

/-- The block of the sample rows as the body leaves it, from the blocks and the two dense matrices it reads. -/
def rowsSnd (x0 : Vec F S512x1024 .f32) (x1 : Vec F S512x1024 .bf16) (x2 : Vec F S512x512 .bf16) (x3 : Vec F S512x3072 .bf16) (x4 : Vec F S512x256 .f32) (x10 : Vec F S512x1024 .bf16) (x11 x12 : Vec F S1024x1024 .bf16) (x13 x14 : Vec F S1x1024 .f32) (x15 : Vec F S1024x1024 .bf16) (x16 : Vec F S256x1024 .bf16) (wu : Vec F S1024x4096 .bf16) (wd : Vec F S4096x1024 .bf16) : Vec F S512x1024 .f32 :=
  k0_pay2 (accSnd x0 x1 x2 x3 x10 x11 x12 x13 wu wd) (gateSnd x0 x1 x2 x3 x10 x11 x12 x13 x14 x15 wu wd) (k0_pay19 (View.ld x4 (Rect.unit (s := S512x256) ![0, 0] S512x256.size inb_S512x256_S512x256_0_0))) (View.ld x16 (Rect.unit (s := S256x1024) ![0, 0] S256x1024.size inb_S256x1024_S256x1024_0_0))

end Cert.ChanIdeal

end
-- ==== Proof.ChSpec.lean ====
module

public import Idealize.ShloMosaic.Lib.Pointwise

@[expose] public section
set_option maxRecDepth 16384
noncomputable section
namespace Cert.ChSpec
open Idealize.ShloMosaic

/-- What the channel mixing reads of one position: the layer's input, the recurrence's output, the attention's output, the
    projection's columns and the position's own embedding. -/
structure Row where
  x : Fin 1024 → EReal
  h : Fin 1024 → EReal
  a : Fin 512 → EReal
  pre : Fin 3072 → EReal
  p : Fin 256 → EReal

/-- The channel mixing's matrices and scales. -/
structure Wts where
  woa : Fin 512 → Fin 1024 → EReal
  wor : Fin 1024 → Fin 1024 → EReal
  wout : Fin 1024 → Fin 1024 → EReal
  g : Fin 1024 → EReal
  wup : Fin 1024 → Fin 4096 → EReal
  wdn : Fin 4096 → Fin 1024 → EReal
  pg : Fin 1024 → EReal
  wpg : Fin 1024 → Fin 1024 → EReal
  wple : Fin 256 → Fin 1024 → EReal

/-- The tanh form of the Gaussian unit. -/
def gelu (z : EReal) : EReal :=
  z * (Ideal.ofBits .f32 1056964608#32 * (1 + Ideal.tanh (Ideal.ofBits .f32 1061962282#32 * (z + Ideal.ofBits .f32 1027024659#32 * (z * (z * z))))))

/-- A row normalised by its root mean square, with a scale. -/
def rms (f g : Fin 1024 → EReal) (l : Fin 1024) : EReal :=
  f l * Ideal.rsqrt (Ideal.div (∑ k, f k * f k) (Ideal.ofBits .f32 1149239296#32) + Ideal.ofBits .f32 897988541#32) * g l

variable (W : Wts) (R : Row)

/-- The two branches, each through its gate. -/
def mix (l : Fin 1024) : EReal :=
  Ideal.logistic (R.pre ⟨1024 + l.val, by omega⟩) * (∑ k, R.a k * W.woa k l)
    + Ideal.logistic (R.pre ⟨2048 + l.val, by omega⟩) * (∑ k, R.h k * gelu (R.pre ⟨k.val, by omega⟩) * W.wor k l)

/-- The residual after the branches. -/
def mid (l : Fin 1024) : EReal := R.x l + ∑ k, mix W R k * W.wout k l

/-- The hidden layer's unit `j`. -/
def hid (j : Fin 4096) : EReal :=
  max (∑ k, rms (mid W R) W.g k * W.wup k j) 0 * max (∑ k, rms (mid W R) W.g k * W.wup k j) 0

/-- The residual after the dense layer. -/
def acc (l : Fin 1024) : EReal := mid W R l + ∑ j, hid W R j * W.wdn j l

/-- The position's result. -/
def out (l : Fin 1024) : EReal :=
  acc W R l + Ideal.logistic (∑ k, rms (acc W R) W.pg k * W.wpg k l) * (∑ k, R.p k * W.wple k l)

/-- The extended reals at the indices of a matrix of `a` by `b`. -/
abbrev T2 (a b : ℕ) := (⟨2, ![a, b]⟩ : Shape).Idx → EReal
/-- The extended reals at the indices of an array of three dimensions. -/
abbrev T3 (a b c : ℕ) := (⟨3, ![a, b, c]⟩ : Shape).Idx → EReal
/-- The extended reals at the indices of an array of four dimensions. -/
abbrev T4 (a b c d : ℕ) := (⟨4, ![a, b, c, d]⟩ : Shape).Idx → EReal

/-- The argument arrays: five of the prompt's rows, five of the samples' rows, nine of matrices and scales. -/
structure Args where
  a0 : T3 8 2048 1024
  a1 : T3 8 2048 1024
  a2 : T3 8 2048 512
  a3 : T3 8 2048 3072
  a4 : T4 1 8 2048 256
  a5 : T3 128 4 1024
  a6 : T3 128 4 1024
  a7 : T3 128 4 512
  a8 : T3 128 4 3072
  a9 : T4 1 128 4 256
  a10 : T3 1 512 1024
  a11 : T3 1 1024 1024
  a12 : T3 1 1024 1024
  a13 : T2 1 1024
  a14 : T3 1 1024 4096
  a15 : T3 1 4096 1024
  a16 : T2 1 1024
  a17 : T3 1 1024 1024
  a18 : T3 1 256 1024

/-- The matrices and scales. -/
def Args.w (A : Args) : Wts where
  woa k l := A.a10 (ix3 0 k l)
  wor k l := A.a11 (ix3 0 k l)
  wout k l := A.a12 (ix3 0 k l)
  g l := A.a13 (ix2 0 l)
  wup k l := A.a14 (ix3 0 k l)
  wdn k l := A.a15 (ix3 0 k l)
  pg l := A.a16 (ix2 0 l)
  wpg k l := A.a17 (ix3 0 k l)
  wple k l := A.a18 (ix3 0 k l)

/-- The prompt's row at position `t` of sequence `b`. -/
def Args.fst (A : Args) (b : Fin 8) (t : Fin 2048) : Row where
  x l := A.a0 (ix3 b t l)
  h l := A.a1 (ix3 b t l)
  a l := A.a2 (ix3 b t l)
  pre l := A.a3 (ix3 b t l)
  p l := A.a4 (ix4 0 b t l)

/-- The samples' row of sample `s` at step `t`. -/
def Args.snd (A : Args) (s : Fin 128) (t : Fin 4) : Row where
  x l := A.a5 (ix3 s t l)
  h l := A.a6 (ix3 s t l)
  a l := A.a7 (ix3 s t l)
  pre l := A.a8 (ix3 s t l)
  p l := A.a9 (ix4 0 s t l)

/-- The first result: the prompt's rows, one sequence after another. -/
def outFst (A : Args) (i : Fin 16384) (l : Fin 1024) : EReal :=
  out A.w (A.fst ⟨i.val / 2048, by omega⟩ ⟨i.val % 2048, by omega⟩) l

/-- The second result: the samples' rows, one step after another. -/
def outSnd (A : Args) (i : Fin 512) (l : Fin 1024) : EReal :=
  out A.w (A.snd ⟨i.val % 128, by omega⟩ ⟨i.val / 128, by omega⟩) l

/-- A cube, multiplied from the left or from the right. -/
theorem cube (z : EReal) : z * z * z = z * (z * z) := mul_assoc z z z

/-- A sum over 4096 units is that over its four chunks of 1024. -/
theorem sum_chunks (f : Fin 4096 → EReal) (y : EReal) :
    y + (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) = y + ∑ j, f j := by
  have e : ∑ j, f j = ∑ c : Fin 4, ∑ k : Fin 1024, f ⟨c.val * 1024 + k.val, by omega⟩ := by
    rw [← (finProdFinEquiv (m := 4) (n := 1024)).sum_comp f, Fintype.sum_prod_type]
    refine Finset.sum_congr rfl fun c _ => Finset.sum_congr rfl fun k _ => congrArg f (Fin.ext ?_)
    show k.val + 1024 * c.val = c.val * 1024 + k.val
    omega
  rw [e, Fin.sum_univ_four]
  simp only [add_assoc]
  congr 1

end Cert.ChSpec
-- ==== Proof.ChKernel.lean ====
module

public import proofs.«01_k».proof.Proof.IdChRows
public import proofs.«01_k».proof.Proof.ChSpec
public import Idealize.ShloMosaic.Lib.Pointwise
public import Idealize.ShloMosaic.Lib.Pipeline.Value
public import Idealize.ShloMosaic.Lib.Pointwise.Blocks

@[expose] public section
set_option maxRecDepth 16384
noncomputable section
namespace Cert.ChanIdeal
open Cert.ChannelIdeal Cert.ChannelIdeal.Gen Cert.ChSpec Idealize.ShloMosaic Idealize.ShloMosaic.TcCoe

/-- The rows of the second result are computed as those of the first. -/
theorem rowsSnd_eq {F : FTy → Type} [FloatOps F] : @rowsSnd F _ = @rowsFst F _ := rfl

variable (W : Wts) (R : Fin 512 → Row)
variable (x0 : Vec Ideal S512x1024 .f32) (x1 : Vec Ideal S512x1024 .bf16) (x2 : Vec Ideal S512x512 .bf16) (x3 : Vec Ideal S512x3072 .bf16) (x4 : Vec Ideal S512x256 .f32) (x10 : Vec Ideal S512x1024 .bf16) (x11 x12 : Vec Ideal S1024x1024 .bf16) (x13 x14 : Vec Ideal S1x1024 .f32) (x15 : Vec Ideal S1024x1024 .bf16) (x16 : Vec Ideal S256x1024 .bf16) (wu : Vec Ideal S1024x4096 .bf16) (wd : Vec Ideal S4096x1024 .bf16)

/-- The blocks hold the rows and the matrices. -/
structure Ins : Prop where
  h0 : ∀ (r : Fin 512) (l : Fin 1024), (x0 (ix2 r l) : EReal) = (R r).x l
  h1 : ∀ (r : Fin 512) (l : Fin 1024), (x1 (ix2 r l) : EReal) = (R r).h l
  h2 : ∀ (r : Fin 512) (l : Fin 512), (x2 (ix2 r l) : EReal) = (R r).a l
  h3 : ∀ (r : Fin 512) (l : Fin 3072), (x3 (ix2 r l) : EReal) = (R r).pre l
  h4 : ∀ (r : Fin 512) (l : Fin 256), (x4 (ix2 r l) : EReal) = (R r).p l
  h10 : ∀ (k : Fin 512) (l : Fin 1024), (x10 (ix2 k l) : EReal) = W.woa k l
  h11 : ∀ (k l : Fin 1024), (x11 (ix2 k l) : EReal) = W.wor k l
  h12 : ∀ (k l : Fin 1024), (x12 (ix2 k l) : EReal) = W.wout k l
  h13 : ∀ (l : Fin 1024), (x13 (ix2 0 l) : EReal) = W.g l
  h14 : ∀ (l : Fin 1024), (x14 (ix2 0 l) : EReal) = W.pg l
  h15 : ∀ (k l : Fin 1024), (x15 (ix2 k l) : EReal) = W.wpg k l
  h16 : ∀ (k : Fin 256) (l : Fin 1024), (x16 (ix2 k l) : EReal) = W.wple k l
  hu : ∀ (k : Fin 1024) (j : Fin 4096), (wu (ix2 k j) : EReal) = W.wup k j
  hd : ∀ (j : Fin 4096) (l : Fin 1024), (wd (ix2 j l) : EReal) = W.wdn j l

variable (H : Ins W R x0 x1 x2 x3 x4 x10 x11 x12 x13 x14 x15 x16 wu wd)
include H

/-- The gated mix, read at an index. -/
theorem mix_at (r : Fin 512) (l : Fin 1024) : (mixFst x1 x2 x3 x10 x11 (ix2 r l) : EReal) = mix W (R r) l := by
  pointwise [mixFst, k0_pay3]
  simp only [H.h1, H.h2, H.h3, H.h10, H.h11]
  rfl

/-- The residual after the branches, read at an index. -/
theorem mid_at (r : Fin 512) (l : Fin 1024) : (k0_pay5 (mixFst x1 x2 x3 x10 x11) (k0_pay4 (View.ld x0 (Rect.unit (s := S512x1024) ![0, 0] S512x1024.size inb_S512x1024_S512x1024_0_0))) (View.ld x12 (Rect.unit (s := S1024x1024) ![0, 0] S1024x1024.size inb_S1024x1024_S1024x1024_0_0)) (ix2 r l) : EReal) = mid W (R r) l := by
  pointwise [k0_pay5, k0_pay4]
  simp only [H.h0, H.h12, mix_at W R x0 x1 x2 x3 x4 x10 x11 x12 x13 x14 x15 x16 wu wd H]
  rfl

/-- The normalised residual, read at an index. -/
theorem norm_at (r : Fin 512) (l : Fin 1024) : (k0_pay6 (mixFst x1 x2 x3 x10 x11) (k0_pay4 (View.ld x0 (Rect.unit (s := S512x1024) ![0, 0] S512x1024.size inb_S512x1024_S512x1024_0_0))) (View.ld x12 (Rect.unit (s := S1024x1024) ![0, 0] S1024x1024.size inb_S1024x1024_S1024x1024_0_0)) (View.ld x13 (Rect.unit (s := S1x1024) ![0, 0] S1x1024.size inb_S1x1024_S1x1024_0_0)) (ix2 r l) : EReal) = rms (mid W (R r)) W.g l := by
  pointwise [k0_pay6]
  simp only [H.h13, mid_at W R x0 x1 x2 x3 x4 x10 x11 x12 x13 x14 x15 x16 wu wd H]
  rfl

/-- The residual after the first chunk of the dense layer, read at an index. -/
theorem first_at (r : Fin 512) (l : Fin 1024) : (accFst1 x0 x1 x2 x3 x10 x11 x12 x13 wu wd (ix2 r l) : EReal)
    = mid W (R r) l + ∑ k : Fin 1024, hid W (R r) ⟨k.val, by omega⟩ * W.wdn ⟨k.val, by omega⟩ l := by
  pointwise [accFst1, k0_pay7]
  simp only [H.hu, H.hd, norm_at W R x0 x1 x2 x3 x4 x10 x11 x12 x13 x14 x15 x16 wu wd H, mid_at W R x0 x1 x2 x3 x4 x10 x11 x12 x13 x14 x15 x16 wu wd H]
  rfl

/-- The second chunk of the hidden layer, read at an index. -/
theorem second_at (r : Fin 512) (l : Fin 1024) : (hidFst x0 x1 x2 x3 x10 x11 x12 x13 wu wd (ix2 r l) : EReal)
    = hid W (R r) ⟨1024 + l.val, by omega⟩ := by
  pointwise [hidFst, k0_pay8]
  simp only [H.hu, norm_at W R x0 x1 x2 x3 x4 x10 x11 x12 x13 x14 x15 x16 wu wd H]
  rfl

/-- The residual after the dense layer, read at an index. -/
theorem acc_at (r : Fin 512) (l : Fin 1024) : (accFst x0 x1 x2 x3 x10 x11 x12 x13 wu wd (ix2 r l) : EReal) = acc W (R r) l := by
  refine Eq.trans ?_ (sum_chunks (fun j => hid W (R r) j * W.wdn j l) (mid W (R r) l))
  pointwise [accFst, k0_pay9, normFst]
  simp only [H.hu, H.hd, norm_at W R x0 x1 x2 x3 x4 x10 x11 x12 x13 x14 x15 x16 wu wd H, first_at W R x0 x1 x2 x3 x4 x10 x11 x12 x13 x14 x15 x16 wu wd H, second_at W R x0 x1 x2 x3 x4 x10 x11 x12 x13 x14 x15 x16 wu wd H]
  rfl

/-- The normalised rows that enter the gate, read at an index. -/
theorem gateIn_at (r : Fin 512) (l : Fin 1024) : (gateInFst x0 x1 x2 x3 x10 x11 x12 x13 x14 wu wd (ix2 r l) : EReal) = rms (acc W (R r)) W.pg l := by
  have e : ∀ (r : Fin 512) (l : Fin 1024), (k0_pay9 (normFst x0 x1 x2 x3 x10 x11 x12 x13) (accFst1 x0 x1 x2 x3 x10 x11 x12 x13 wu wd) (hidFst x0 x1 x2 x3 x10 x11 x12 x13 wu wd) (View.ld wd (Rect.unit (s := S4096x1024) ![1024, 0] S1024x1024.size inb_S4096x1024_S1024x1024_1024_0)) (View.ld wu (Rect.unit (s := S1024x4096) ![0, 2048] S1024x1024.size inb_S1024x4096_S1024x1024_0_2048)) (View.ld wd (Rect.unit (s := S4096x1024) ![2048, 0] S1024x1024.size inb_S4096x1024_S1024x1024_2048_0)) (View.ld wu (Rect.unit (s := S1024x4096) ![0, 3072] S1024x1024.size inb_S1024x4096_S1024x1024_0_3072)) (View.ld wd (Rect.unit (s := S4096x1024) ![3072, 0] S1024x1024.size inb_S4096x1024_S1024x1024_3072_0)) (ix2 r l) : EReal) = acc W (R r) l :=
    acc_at W R x0 x1 x2 x3 x4 x10 x11 x12 x13 x14 x15 x16 wu wd H
  pointwise [gateInFst, k0_pay10]
  simp only [H.h14, e]
  rfl

/-- The block of rows, read at an index. -/
theorem rows_at (r : Fin 512) (l : Fin 1024) : (rowsFst x0 x1 x2 x3 x4 x10 x11 x12 x13 x14 x15 x16 wu wd (ix2 r l) : EReal) = out W (R r) l := by
  pointwise [rowsFst, k0_pay1, k0_pay11]
  simp only [H.h4, H.h15, H.h16, acc_at W R x0 x1 x2 x3 x4 x10 x11 x12 x13 x14 x15 x16 wu wd H, gateIn_at W R x0 x1 x2 x3 x4 x10 x11 x12 x13 x14 x15 x16 wu wd H]
  rfl

end Cert.ChanIdeal
-- ==== Proof.IdChRuns.lean ====
module

public import proofs.«01_k».proof.Proof.Gen.ChannelIdeal.Launch
public import proofs.«01_k».proof.Proof.Gen.ChannelIdeal.Skeleton
public import proofs.«01_k».proof.Proof.Gen.ChannelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ChanIdeal

open Cert.ChannelIdeal Cert.ChannelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (Pipeline.UD sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (Pipeline.UD sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (Pipeline.UD sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (Pipeline.UD sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1140000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_ChannelIdeal`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points before point 32 — decided over the grid. -/
theorem hcond0_1 : ∀ t : Fin cfg0.N, cond0_1 (grid0.coords t) ↔ t.val < 32 :=
  (by decide +kernel : ∀ t : Fin grid0.N, cond0_1 (grid0.coords t) ↔ t.val < 32)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 0#32)) 0#32) = 1#1
/-- It holds at the first point only — by arithmetic of the point. -/
theorem hcond0_2 : ∀ t : Fin cfg0.N, cond0_2 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_2, e0]
    word_cmp
   : ∀ t : Fin grid0.N, cond0_2 (grid0.coords t) ↔ t.val % 33 = 0)

/-- The condition of the body's `scf.if` 3 (`k0_h4`), from the grid coordinates (the skeleton's scalar
    chain substituted). -/
abbrev cond0_3 (i : grid0.Coords) : Prop := k0_cond4 i = 1#1
/-- It holds at the last point only — decided over the grid. -/
theorem hcond0_3 : ∀ t : Fin cfg0.N, cond0_3 (grid0.coords t) ↔ t.val % 33 = 32 :=
  (by decide +kernel : ∀ t : Fin grid0.N, cond0_3 (grid0.coords t) ↔ t.val % 33 = 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x3072 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x3072 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x1024 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S512x1024 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S512x1024 .f32 := win0_18.stage (cfg0.slots t 18)
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S1024x4096 .bf16 := Memref.whole cc0_scratch0
abbrev scM0_1 : Memref sig .tc .vmem S4096x1024 .bf16 := Memref.whole cc0_scratch1
/-- The operands left in HBM that the body copies into scratch itself, whole. -/
abbrev hbM0_0 : Memref sig .tc .hbm S1024x4096 .bf16 := Memref.whole main_v7
abbrev hbM0_1 : Memref sig .tc .hbm S4096x1024 .bf16 := Memref.whole main_v9
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 25, SemLoc.dma 26] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 25) 0 ∗ semVal ((c : Thread nD τ), SemLoc.dma 26) 0) := by
  rw [Pipeline.ownSems0_eq_of_list c osem0 [0, 1] (by decide) (by decide)]; rfl
/-- The HBM operands the body moves, as references: unscoped, no window's array (`Pipeline.restRefs`). -/
def H0 : Finset (Ref sig .tc) := {main_v7, main_v9}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v7) ∗ hbPt0 c hbM0_1 (V m c main_v9)) := by
  rw [BI.bigSep_eq_bigSepL_of_eq [main_v7, main_v9] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 25) 0 ∗ semVal ((c : Thread nD τ), SemLoc.dma 26) 0) ∗ iprop(hbPt0 c hbM0_0 (V m c main_v7) ∗ hbPt0 c hbM0_1 (V m c main_v9))) := by
  rw [Pipeline.ΦD_eq, scopedRest0_eq, ownSems00_eq, hbmPts0_eq]; simp only [scM0_0, scM0_1, owns_whole]; try rfl

end Cert.ChanIdeal

end
-- ==== Proof.IdChRunA.lean ====
module

public import proofs.«01_k».proof.Proof.IdChRuns
public import proofs.«01_k».proof.Proof.IdChRows

@[expose] public section

set_option maxRecDepth 16384

noncomputable section

namespace Cert.ChanIdeal

open Cert.ChannelIdeal Cert.ChannelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the first point: it fetches the two dense matrices into scratch, waits for them and stores the block of the prompt rows. -/
theorem runA (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S512x3072 .bf16) (harg4 : arg4.IsWhole) (arg5 : Memref sig .tc .vmem S512x256 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x512 .bf16) (harg8 : arg8.IsWhole) (arg9 : Memref sig .tc .vmem S512x3072 .bf16) (harg9 : arg9.IsWhole) (arg10 : Memref sig .tc .vmem S512x256 .f32) (harg10 : arg10.IsWhole) (arg11 : Memref sig .tc .vmem S512x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole) (arg17 : Memref sig .tc .vmem S1x1024 .f32) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S512x1024 .f32) (harg20 : arg20.IsWhole) (arg21 : Memref sig .tc .vmem S512x1024 .f32) (harg21 : arg21.IsWhole) (arg22 : Memref sig .tc .vmem S1024x4096 .bf16) (harg22 : arg22.IsWhole) (arg23 : Memref sig .tc .vmem S4096x1024 .bf16) (harg23 : arg23.IsWhole) (hc0 : cond0_0 i) (hc1 : cond0_1 i) (hc2 : cond0_2 i) (hc3 : ¬cond0_3 i)
    (x0 : Vec F S512x1024 .f32) (x1 : Vec F S512x1024 .bf16) (x2 : Vec F S512x512 .bf16) (x3 : Vec F S512x3072 .bf16) (x4 : Vec F S512x256 .f32) (x5 : Vec F S512x1024 .f32) (x6 : Vec F S512x1024 .bf16) (x7 : Vec F S512x512 .bf16) (x8 : Vec F S512x3072 .bf16) (x9 : Vec F S512x256 .f32) (x10 : Vec F S512x1024 .bf16) (x11 : Vec F S1024x1024 .bf16) (x12 : Vec F S1024x1024 .bf16) (x13 : Vec F S1x1024 .f32) (x14 : Vec F S1x1024 .f32) (x15 : Vec F S1024x1024 .bf16) (x16 : Vec F S256x1024 .bf16) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg17 fullShare x14 ∗ owns (c : Thread nD τ) arg18 fullShare x15 ∗ owns (c : Thread nD τ) arg19 fullShare x16 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ semVal ((c : Thread nD τ), SemLoc.dma 25) 0 ∗ semVal ((c : Thread nD τ), SemLoc.dma 26) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg17 fullShare x14 ∗ owns (c : Thread nD τ) arg18 fullShare x15 ∗ owns (c : Thread nD τ) arg19 fullShare x16 ∗ owns (c : Thread nD τ) arg20 fullShare (rowsFst x0 x1 x2 x3 x4 x10 x11 x12 x13 x14 x15 x16 (hbM0_0.view.read (Elt F) fh0) (hbM0_1.view.read (Elt F) fh1)) ∗ (∃ d, owns (c : Thread nD τ) arg21 fullShare d) ∗ owns (c : Thread nD τ) arg22 fullShare (hbM0_0.view.read (Elt F) fh0) ∗ owns (c : Thread nD τ) arg23 fullShare (hbM0_1.view.read (Elt F) fh1) ∗ semVal ((c : Thread nD τ), SemLoc.dma 25) 0 ∗ semVal ((c : Thread nD τ), SemLoc.dma 26) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_merge_mlp_ple i arg1 harg1 arg2 harg2 arg3 harg3 arg4 harg4 arg5 harg5 arg6 harg6 arg7 harg7 arg8 harg8 arg9 harg9 arg10 harg10 arg11 harg11 arg12 harg12 arg13 harg13 arg14 harg14 (Memref.whole main_v7) (Memref.isWhole_whole _) (Memref.whole main_v9) (Memref.isWhole_whole _) arg17 harg17 arg18 harg18 arg19 harg19 arg20 harg20 arg21 harg21 arg22 harg22 arg23 harg23 cc0_scratch2) K := by
    intro W K
    simp only [cc0_merge_mlp_ple_eq_skeleton]; unfold cc0_merge_mlp_ple_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%ds0, %fs0, -, HS0⟩, ⟨%ds1, %fs1, -, HS1⟩, Hq0, Hq1, Hh0, Hh1, HW, Hk⟩
    subst hf0; subst hf1; subst hf2; subst hf3; subst hf4; subst hf5; subst hf6; subst hf7; subst hf8; subst hf9; subst hf10; subst hf11; subst hf12; subst hf13; subst hf14; subst hf15; subst hf16;
    sl_exec (disch := first | sl_exact hc0 | sl_exact hc1 | sl_exact hc2 | sl_exact hc3)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    isplitl [H15]
    · iexists f15; isplitr; · ipureintro; rfl
      iexact H15
    isplitl [H16]
    · iexists f16; isplitr; · ipureintro; rfl
      iexact H16
    isplitl [H17]
    · iexists _; isplitr; swap; · iexact H17
      ipureintro
      refine (read_rows _ _ _).trans ?_
      refine (show _ = rowsFst (arg1.view.read (Elt F) f0) (arg2.view.read (Elt F) f1) (arg3.view.read (Elt F) f2) (arg4.view.read (Elt F) f3) (arg5.view.read (Elt F) f4) (arg11.view.read (Elt F) f10) (arg12.view.read (Elt F) f11) (arg13.view.read (Elt F) f12) (arg14.view.read (Elt F) f13) (arg17.view.read (Elt F) f14) (arg18.view.read (Elt F) f15) (arg19.view.read (Elt F) f16) (arg22.view.read (Elt F) (arg22.view.writes (Elt F) arg22.view.junk [⟨Rect.whole S1024x4096, hbM0_0.view.read (Elt F) fh0⟩])) (arg23.view.read (Elt F) (arg23.view.writes (Elt F) arg23.view.junk [⟨Rect.whole S4096x1024, hbM0_1.view.read (Elt F) fh1⟩])) from rfl).trans ?_
      rw [read_whole, read_whole]
    isplitl [H18]
    · iexists _, _; isplitr; swap; · iexact H18
      ipureintro; rfl
    isplitl [HS0]
    · iexists _; isplitr; swap; · iexact HS0
      ipureintro; exact read_whole _ _ _
    isplitl [HS1]
    · iexists _; isplitr; swap; · iexact HS1
      ipureintro; exact read_whole _ _ _
    isplitl [Hq0]; · iexact Hq0
    isplitl [Hq1]; · iexact Hq1
    isplitl [Hh0]; · iexact Hh0
    isplitl [Hh1]; · iexact Hh1
    iexists _; iexact HW

end Cert.ChanIdeal

end
-- ==== Proof.IdChRunB.lean ====
module

public import proofs.«01_k».proof.Proof.IdChRunA

@[expose] public section

set_option maxRecDepth 16384

noncomputable section

namespace Cert.ChanIdeal

open Cert.ChannelIdeal Cert.ChannelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at a later point of the prompt rows: it reads the dense matrices from scratch and stores the block of the prompt rows. -/
theorem runB (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S512x3072 .bf16) (harg4 : arg4.IsWhole) (arg5 : Memref sig .tc .vmem S512x256 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x512 .bf16) (harg8 : arg8.IsWhole) (arg9 : Memref sig .tc .vmem S512x3072 .bf16) (harg9 : arg9.IsWhole) (arg10 : Memref sig .tc .vmem S512x256 .f32) (harg10 : arg10.IsWhole) (arg11 : Memref sig .tc .vmem S512x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole) (arg17 : Memref sig .tc .vmem S1x1024 .f32) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S512x1024 .f32) (harg20 : arg20.IsWhole) (arg21 : Memref sig .tc .vmem S512x1024 .f32) (harg21 : arg21.IsWhole) (arg22 : Memref sig .tc .vmem S1024x4096 .bf16) (harg22 : arg22.IsWhole) (arg23 : Memref sig .tc .vmem S4096x1024 .bf16) (harg23 : arg23.IsWhole) (hc0 : ¬cond0_0 i) (hc1 : cond0_1 i) (hc2 : ¬cond0_2 i) (hc3 : ¬cond0_3 i)
    (x0 : Vec F S512x1024 .f32) (x1 : Vec F S512x1024 .bf16) (x2 : Vec F S512x512 .bf16) (x3 : Vec F S512x3072 .bf16) (x4 : Vec F S512x256 .f32) (x5 : Vec F S512x1024 .f32) (x6 : Vec F S512x1024 .bf16) (x7 : Vec F S512x512 .bf16) (x8 : Vec F S512x3072 .bf16) (x9 : Vec F S512x256 .f32) (x10 : Vec F S512x1024 .bf16) (x11 : Vec F S1024x1024 .bf16) (x12 : Vec F S1024x1024 .bf16) (x13 : Vec F S1x1024 .f32) (x14 : Vec F S1x1024 .f32) (x15 : Vec F S1024x1024 .bf16) (x16 : Vec F S256x1024 .bf16) (fh0 : HbBuf0 (F := F) c hbM0_0) (fh1 : HbBuf0 (F := F) c hbM0_1) (ws0 : Vec F S1024x4096 .bf16) (ws1 : Vec F S4096x1024 .bf16) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg17 fullShare x14 ∗ owns (c : Thread nD τ) arg18 fullShare x15 ∗ owns (c : Thread nD τ) arg19 fullShare x16 ∗ (∃ d, owns (c : Thread nD τ) arg20 fullShare d) ∗ (∃ d, owns (c : Thread nD τ) arg21 fullShare d) ∗ owns (c : Thread nD τ) arg22 fullShare ws0 ∗ owns (c : Thread nD τ) arg23 fullShare ws1 ∗ semVal ((c : Thread nD τ), SemLoc.dma 25) 0 ∗ semVal ((c : Thread nD τ), SemLoc.dma 26) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg17 fullShare x14 ∗ owns (c : Thread nD τ) arg18 fullShare x15 ∗ owns (c : Thread nD τ) arg19 fullShare x16 ∗ owns (c : Thread nD τ) arg20 fullShare (rowsFst x0 x1 x2 x3 x4 x10 x11 x12 x13 x14 x15 x16 ws0 ws1) ∗ (∃ d, owns (c : Thread nD τ) arg21 fullShare d) ∗ owns (c : Thread nD τ) arg22 fullShare ws0 ∗ owns (c : Thread nD τ) arg23 fullShare ws1 ∗ semVal ((c : Thread nD τ), SemLoc.dma 25) 0 ∗ semVal ((c : Thread nD τ), SemLoc.dma 26) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_merge_mlp_ple i arg1 harg1 arg2 harg2 arg3 harg3 arg4 harg4 arg5 harg5 arg6 harg6 arg7 harg7 arg8 harg8 arg9 harg9 arg10 harg10 arg11 harg11 arg12 harg12 arg13 harg13 arg14 harg14 (Memref.whole main_v7) (Memref.isWhole_whole _) (Memref.whole main_v9) (Memref.isWhole_whole _) arg17 harg17 arg18 harg18 arg19 harg19 arg20 harg20 arg21 harg21 arg22 harg22 arg23 harg23 cc0_scratch2) K := by
    intro W K
    simp only [cc0_merge_mlp_ple_eq_skeleton]; unfold cc0_merge_mlp_ple_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%fs0, %hs0, HS0⟩, ⟨%fs1, %hs1, HS1⟩, Hq0, Hq1, Hh0, Hh1, HW, Hk⟩
    subst hs0; subst hs1; subst hf0; subst hf1; subst hf2; subst hf3; subst hf4; subst hf5; subst hf6; subst hf7; subst hf8; subst hf9; subst hf10; subst hf11; subst hf12; subst hf13; subst hf14; subst hf15; subst hf16;
    sl_exec (disch := first | sl_exact hc0 | sl_exact hc1 | sl_exact hc2 | sl_exact hc3)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    isplitl [H15]
    · iexists f15; isplitr; · ipureintro; rfl
      iexact H15
    isplitl [H16]
    · iexists f16; isplitr; · ipureintro; rfl
      iexact H16
    isplitl [H17]
    · iexists _; isplitr; swap; · iexact H17
      ipureintro; exact (read_rows _ _ _).trans rfl
    isplitl [H18]
    · iexists _, _; isplitr; swap; · iexact H18
      ipureintro; rfl
    isplitl [HS0]
    · iexists fs0; isplitr; · ipureintro; rfl
      iexact HS0
    isplitl [HS1]
    · iexists fs1; isplitr; · ipureintro; rfl
      iexact HS1
    isplitl [Hq0]; · iexact Hq0
    isplitl [Hq1]; · iexact Hq1
    isplitl [Hh0]; · iexact Hh0
    isplitl [Hh1]; · iexact Hh1
    iexists _; iexact HW

end Cert.ChanIdeal

end
-- ==== Proof.IdChRunC.lean ====
module

public import proofs.«01_k».proof.Proof.IdChRunB

@[expose] public section

set_option maxRecDepth 16384

noncomputable section

namespace Cert.ChanIdeal

open Cert.ChannelIdeal Cert.ChannelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the last point: it reads the dense matrices from scratch and stores the block of the sample rows. -/
theorem runC (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S512x3072 .bf16) (harg4 : arg4.IsWhole) (arg5 : Memref sig .tc .vmem S512x256 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x512 .bf16) (harg8 : arg8.IsWhole) (arg9 : Memref sig .tc .vmem S512x3072 .bf16) (harg9 : arg9.IsWhole) (arg10 : Memref sig .tc .vmem S512x256 .f32) (harg10 : arg10.IsWhole) (arg11 : Memref sig .tc .vmem S512x1024 .bf16) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole) (arg17 : Memref sig .tc .vmem S1x1024 .f32) (harg17 : arg17.IsWhole) (arg18 : Memref sig .tc .vmem S1024x1024 .bf16) (harg18 : arg18.IsWhole) (arg19 : Memref sig .tc .vmem S256x1024 .bf16) (harg19 : arg19.IsWhole) (arg20 : Memref sig .tc .vmem S512x1024 .f32) (harg20 : arg20.IsWhole) (arg21 : Memref sig .tc .vmem S512x1024 .f32) (harg21 : arg21.IsWhole) (arg22 : Memref sig .tc .vmem S1024x4096 .bf16) (harg22 : arg22.IsWhole) (arg23 : Memref sig .tc .vmem S4096x1024 .bf16) (harg23 : arg23.IsWhole) (hc0 : ¬cond0_0 i) (hc1 : ¬cond0_1 i) (hc3 : cond0_3 i)
    (x0 : Vec F S512x1024 .f32) (x1 : Vec F S512x1024 .bf16) (x2 : Vec F S512x512 .bf16) (x3 : Vec F S512x3072 .bf16) (x4 : Vec F S512x256 .f32) (x5 : Vec F S512x1024 .f32) (x6 : Vec F S512x1024 .bf16) (x7 : Vec F S512x512 .bf16) (x8 : Vec F S512x3072 .bf16) (x9 : Vec F S512x256 .f32) (x10 : Vec F S512x1024 .bf16) (x11 : Vec F S1024x1024 .bf16) (x12 : Vec F S1024x1024 .bf16) (x13 : Vec F S1x1024 .f32) (x14 : Vec F S1x1024 .f32) (x15 : Vec F S1024x1024 .bf16) (x16 : Vec F S256x1024 .bf16) (fh0 : HbBuf0 (F := F) c hbM0_0) (fh1 : HbBuf0 (F := F) c hbM0_1) (ws0 : Vec F S1024x4096 .bf16) (ws1 : Vec F S4096x1024 .bf16) (y17 : Vec F S512x1024 .f32) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg17 fullShare x14 ∗ owns (c : Thread nD τ) arg18 fullShare x15 ∗ owns (c : Thread nD τ) arg19 fullShare x16 ∗ owns (c : Thread nD τ) arg20 fullShare y17 ∗ (∃ d, owns (c : Thread nD τ) arg21 fullShare d) ∗ owns (c : Thread nD τ) arg22 fullShare ws0 ∗ owns (c : Thread nD τ) arg23 fullShare ws1 ∗ semVal ((c : Thread nD τ), SemLoc.dma 25) 0 ∗ semVal ((c : Thread nD τ), SemLoc.dma 26) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg17 fullShare x14 ∗ owns (c : Thread nD τ) arg18 fullShare x15 ∗ owns (c : Thread nD τ) arg19 fullShare x16 ∗ owns (c : Thread nD τ) arg20 fullShare y17 ∗ owns (c : Thread nD τ) arg21 fullShare (rowsSnd x5 x6 x7 x8 x9 x10 x11 x12 x13 x14 x15 x16 ws0 ws1) ∗ owns (c : Thread nD τ) arg22 fullShare ws0 ∗ owns (c : Thread nD τ) arg23 fullShare ws1 ∗ semVal ((c : Thread nD τ), SemLoc.dma 25) 0 ∗ semVal ((c : Thread nD τ), SemLoc.dma 26) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_merge_mlp_ple i arg1 harg1 arg2 harg2 arg3 harg3 arg4 harg4 arg5 harg5 arg6 harg6 arg7 harg7 arg8 harg8 arg9 harg9 arg10 harg10 arg11 harg11 arg12 harg12 arg13 harg13 arg14 harg14 (Memref.whole main_v7) (Memref.isWhole_whole _) (Memref.whole main_v9) (Memref.isWhole_whole _) arg17 harg17 arg18 harg18 arg19 harg19 arg20 harg20 arg21 harg21 arg22 harg22 arg23 harg23 cc0_scratch2) K := by
    intro W K
    simp only [cc0_merge_mlp_ple_eq_skeleton]; unfold cc0_merge_mlp_ple_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%fs0, %hs0, HS0⟩, ⟨%fs1, %hs1, HS1⟩, Hq0, Hq1, Hh0, Hh1, HW, Hk⟩
    subst hs0; subst hs1; subst hf17; subst hf0; subst hf1; subst hf2; subst hf3; subst hf4; subst hf5; subst hf6; subst hf7; subst hf8; subst hf9; subst hf10; subst hf11; subst hf12; subst hf13; subst hf14; subst hf15; subst hf16;
    sl_exec (disch := first | sl_exact hc0 | sl_exact hc1 | sl_exact hc3)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    isplitl [H15]
    · iexists f15; isplitr; · ipureintro; rfl
      iexact H15
    isplitl [H16]
    · iexists f16; isplitr; · ipureintro; rfl
      iexact H16
    isplitl [H17]
    · iexists f17; isplitr; · ipureintro; rfl
      iexact H17
    isplitl [H18]
    · iexists _; isplitr; swap; · iexact H18
      ipureintro; exact (read_rows _ _ _).trans rfl
    isplitl [HS0]
    · iexists fs0; isplitr; · ipureintro; rfl
      iexact HS0
    isplitl [HS1]
    · iexists fs1; isplitr; · ipureintro; rfl
      iexact HS1
    isplitl [Hq0]; · iexact Hq0
    isplitl [Hq1]; · iexact Hq1
    isplitl [Hh0]; · iexact Hh0
    isplitl [Hh1]; · iexact Hh1
    iexists _; iexact HW

end Cert.ChanIdeal

end
-- ==== Proof.IdChFrame.lean ====
module

public import proofs.«01_k».proof.Proof.IdChRunC
public import Idealize.ShloMosaic.Lib.Claim
public import Idealize.ShloMosaic.Lib.Pipeline.DatRel
public import Idealize.ShloMosaic.Lib.Pipeline.ArrRel

@[expose] public section

set_option maxRecDepth 16384

noncomputable section

namespace Cert.ChanIdeal

open Cert.ChannelIdeal Cert.ChannelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first dense matrix, as the launch finds it. -/
def wUp (c : Dev nD) : Vec F S1024x4096 .bf16 := (hbM0_0.view.read (Elt F) (V m c main_v7))

/-- The second dense matrix, as the launch finds it. -/
def wDown (c : Dev nD) : Vec F S4096x1024 .bf16 := (hbM0_1.view.read (Elt F) (V m c main_v9))

/-- The point that stores the block of prompt rows which the buffer holds at point `t`. -/
def lastFst (t : Fin cfg0.N) : Fin cfg0.N := ⟨min t.val 31, lt_of_le_of_lt (Nat.min_le_left _ _) t.isLt⟩

/-- The block of prompt rows that point `t` stores. -/
def outFst (c : Dev nD) (t : Fin cfg0.N) : Vec F S512x1024 .f32 :=
  rowsFst (iblk m c 0 t) (iblk m c 1 t) (iblk m c 2 t) (iblk m c 3 t) (iblk m c 4 t) (iblk m c 10 t) (iblk m c 11 t) (iblk m c 12 t) (iblk m c 13 t) (iblk m c 14 t) (iblk m c 15 t) (iblk m c 16 t) (wUp m c) (wDown m c)

/-- The block of sample rows that point `t` stores. -/
def outSnd (c : Dev nD) (t : Fin cfg0.N) : Vec F S512x1024 .f32 :=
  rowsSnd (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (wUp m c) (wDown m c)

/-- What the launch keeps between points once the dense matrices are fetched. -/
def held (c : Dev nD) : sProp 𝕄 :=
  iprop(iprop(owns (c : Thread nD τ) scM0_0 fullShare (wUp m c) ∗ owns (c : Thread nD τ) scM0_1 fullShare (wDown m c)) ∗ (∃ r, prngReg c r) ∗ iprop(semVal ((c : Thread nD τ), SemLoc.dma 25) 0 ∗ semVal ((c : Thread nD τ), SemLoc.dma 26) 0) ∗ iprop(hbPt0 c hbM0_0 (V m c main_v7) ∗ hbPt0 c hbM0_1 (V m c main_v9)))

/-- Whether a window's contents are held to a property only. -/
def marked : Fin 19 → Bool := fun w => w.val == 18

/-- What the last window holds after a point: after the last point, the block of sample rows. -/
def leftAt (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun _ => True
  | ⟨10, _⟩ => fun _ => True
  | ⟨11, _⟩ => fun _ => True
  | ⟨12, _⟩ => fun _ => True
  | ⟨13, _⟩ => fun _ => True
  | ⟨14, _⟩ => fun _ => True
  | ⟨15, _⟩ => fun _ => True
  | ⟨16, _⟩ => fun _ => True
  | ⟨17, _⟩ => fun _ => True
  | ⟨18, _⟩ => fun X => t.val = 32 → X = outSnd m c t
  | ⟨_ + 19, h⟩ => absurd h (Nat.not_lt.2 (Nat.le_add_left _ _))

/-- What each window holds after each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outFst m c (lastFst t)
    | ⟨18, h⟩ => Pipeline.Dat.unnamed (cfg := cfg0) ⟨18, h⟩ t
    | ⟨_ + 19, h⟩ => absurd h (Nat.not_lt.2 (Nat.le_add_left _ _))
  Φ t := if t.val = 0 then Pipeline.ΦD osem0 spec0 H0 (V m) c else held m c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = outFst m c (lastFst t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

theorem noFetch17 : ∀ t : Fin cfg0.N, (cfg0.win 17).fetch t = false := by decide +kernel

theorem live17 : ∀ t : Fin cfg0.N, t.val < 32 → cfg0.idle 17 (cfg0.grid.coords t) = false := by decide +kernel

theorem kept17 : ∀ t : Fin cfg0.N, cfg0.idle 17 (cfg0.grid.coords t) = false ∨ (cfg0.win 17).flush t = true := by decide +kernel

theorem flush17 : ∀ t : Fin cfg0.N, (cfg0.win 17).flush t = false ↔ t.val = 31 := by decide +kernel

/-- At the last point the buffer of the prompt rows still holds the last block of them. -/
theorem before0_17 (c : Dev nD) (t : Fin cfg0.N) (ht : t.val = 32) (d) :
    (dats m 0 c).before 17 t d = outFst m c (lastFst t) := by
  rw [Dat.before_of_pos _ 17 t (by omega) (noFetch17 t)]
  have hf := (flush17 ⟨t.val - 1, Nat.lt_of_le_of_lt (Nat.sub_le _ _) t.isLt⟩).2 (by show t.val - 1 = 31; omega)
  rw [hf, if_neg Bool.false_ne_true]
  have e : lastFst ⟨t.val - 1, Nat.lt_of_le_of_lt (Nat.sub_le _ _) t.isLt⟩ = lastFst t :=
    Fin.ext (by show min (t.val - 1) 31 = min t.val 31; omega)
  refine Eq.trans ?_ ((after0_17 m c ⟨t.val - 1, Nat.lt_of_le_of_lt (Nat.sub_le _ _) t.isLt⟩).trans (congrArg (outFst m c) e))
  unfold Dat.left
  rw [live17 ⟨t.val - 1, Nat.lt_of_le_of_lt (Nat.sub_le _ _) t.isLt⟩ (by show t.val - 1 < 32; omega)]
  unfold Dat.kept
  rfl

theorem inv_first (c : Dev nD) (t : Fin cfg0.N) (ht : t.val = 0) :
    (dats m 0 c).Φ t.castSucc = Pipeline.ΦD osem0 spec0 H0 (V m) c := if_pos ht
theorem inv_later (c : Dev nD) (t : Fin cfg0.N) (ht : t.val ≠ 0) : (dats m 0 c).Φ t.castSucc = held m c := if_neg ht
theorem inv_next (c : Dev nD) (t : Fin cfg0.N) : (dats m 0 c).Φ t.succ = held m c :=
  (if_neg (Nat.succ_ne_zero t.val) : (if t.val + 1 = 0 then Pipeline.ΦD osem0 spec0 H0 (V m) c else held m c) = held m c)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ Y, ⌜((dats m 0 c).toRRel marked (leftAt m c)).Finds 18 t Y⌝ ∗ owns (c : Thread nD τ) (ms0_18 t) fullShare Y))

/-- What the body returns of the buffer of the prompt rows. -/
def row17 (c : Dev nD) (t : Fin cfg0.N) : sProp 𝕄 :=
  match cfg0.idle 17 (cfg0.grid.coords t) with
  | true =>
    match (cfg0.win 17).flush t with
    | false => iprop(∃ d, owns (c : Thread nD τ) (ms0_17 t) fullShare ((dats m 0 c).before 17 t d))
    | true => owns (c : Thread nD τ) (ms0_17 t) fullShare ((dats m 0 c).after 17 t)
  | false => owns (c : Thread nD τ) (ms0_17 t) fullShare ((dats m 0 c).after 17 t)

theorem row17_eq (c : Dev nD) (t : Fin cfg0.N) :
    row17 m c t = owns (c : Thread nD τ) (ms0_17 t) fullShare ((dats m 0 c).after 17 t) := by
  unfold row17
  rcases kept17 t with h | h
  · rw [h]
  · rw [h]; cases cfg0.idle 17 (cfg0.grid.coords t) <;> rfl

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ row17 m c t
    ∗ (∃ X, ⌜leftAt m c 18 t X⌝ ∗ owns (c : Thread nD τ) (ms0_18 t) fullShare X))

set_option maxHeartbeats 6000000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [row17_eq]
  simp only [before0_0, before0_1, before0_2, before0_3, before0_4, before0_5, before0_6, before0_7, before0_8, before0_9, before0_10, before0_11, before0_12, before0_13, before0_14, before0_15, before0_16, after0_0, after0_1, after0_2, after0_3, after0_4, after0_5, after0_6, after0_7, after0_8, after0_9, after0_10, after0_11, after0_12, after0_13, after0_14, after0_15, after0_16, after0_17]
  rw [inv_next]
  unfold Dat.owesAt Pipeline.owesWithin
  rw [show (dats m 0 c).owed t.castSucc = 0 from rfl, show (dats m 0 c).owed t.succ = 0 from rfl]
  have hN : t.val < 33 := lt_of_lt_of_eq t.isLt (show cfg0.N = 33 from N_0)
  by_cases h0 : t.val = 0
  · have el : lastFst t = t := Fin.ext (by show min t.val 31 = t.val; omega)
    unfold held
    rw [inv_first m c t h0, PhiD0_eq]
    iintro ⟨⟨⟨HS0, HS1⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, -, H18⟩⟩
    iapply ((runA c (grid0.coords t) _ _ _ _ _ _ _ _ _ _ _ _ _ _ _ _ _ _ _ _ _ _ _ _ _ _ _ _ _ _ _ _ _ _ _ _ _ _ _ _ _ _ ((hcond0_0 t).mpr (by omega)) ((hcond0_1 t).mpr (by omega)) ((hcond0_2 t).mpr (by omega)) (fun h => absurd ((hcond0_3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (V m c main_v7) (V m c main_v9)) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [HS0]; · iexact HS0
    isplitl [HS1]; · iexact HS1
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, H5, H6, H7, H8, H9, H10, H11, H12, H13, H14, H15, H16, H17, ⟨%e18, H18⟩, HS0, HS1, Hq0, Hq1, Hh0, Hh1, ⟨%W', HW'⟩⟩
    isplitl [HS0 HS1 Hg Hq0 Hq1 Hh0 Hh1]
    · isplitl [HS0 HS1]
      · isplitl [HS0]; · iexact HS0
        iexact HS1
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]
    · rw [el]; iexact H17
    iexists _; isplitr; swap; · iexact H18
    ipureintro; exact fun h => absurd h (by omega)
  · by_cases h1 : t.val = 32
    · rw [inv_later m c t h0]; unfold held
      simp only [before0_17 m c t h1]
      iintro ⟨⟨⟨HS0, HS1⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, -, H18⟩⟩
      iapply ((runC c (grid0.coords t) _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega)) ((hcond0_3 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (V m c main_v7) (V m c main_v9) (wUp m c) (wDown m c) (outFst m c (lastFst t))) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HS0]; · iexact HS0
      isplitl [HS1]; · iexact HS1
      isplitl [Hq0]; · iexact Hq0
      isplitl [Hq1]; · iexact Hq1
      isplitl [Hh0]; · iexact Hh0
      isplitl [Hh1]; · iexact Hh1
      isplitl [HW]; · iexact HW
      iintro ⟨H0, H1, H2, H3, H4, H5, H6, H7, H8, H9, H10, H11, H12, H13, H14, H15, H16, H17, H18, HS0, HS1, Hq0, Hq1, Hh0, Hh1, ⟨%W', HW'⟩⟩
      isplitl [HS0 HS1 Hg Hq0 Hq1 Hh0 Hh1]
      · isplitl [HS0 HS1]
        · isplitl [HS0]; · iexact HS0
          iexact HS1
        isplitl [Hg]; · iexact Hg
        isplitl [Hq0 Hq1]
        · isplitl [Hq0]; · iexact Hq0
          iexact Hq1
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; isplitr; swap; · iexact H18
      ipureintro; exact fun _ => rfl
    · have el : lastFst t = t := Fin.ext (by show min t.val 31 = t.val; omega)
      rw [inv_later m c t h0]; unfold held
      iintro ⟨⟨⟨HS0, HS1⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, -, H18⟩⟩
      iapply ((runB c (grid0.coords t) _ _ _ _ _ _ _ _ _ _ _ _ _ _ _ _ _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (V m c main_v7) (V m c main_v9) (wUp m c) (wDown m c)) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [HS0]; · iexact HS0
      isplitl [HS1]; · iexact HS1
      isplitl [Hq0]; · iexact Hq0
      isplitl [Hq1]; · iexact Hq1
      isplitl [Hh0]; · iexact Hh0
      isplitl [Hh1]; · iexact Hh1
      isplitl [HW]; · iexact HW
      iintro ⟨H0, H1, H2, H3, H4, H5, H6, H7, H8, H9, H10, H11, H12, H13, H14, H15, H16, H17, ⟨%e18, H18⟩, HS0, HS1, Hq0, Hq1, Hh0, Hh1, ⟨%W', HW'⟩⟩
      isplitl [HS0 HS1 Hg Hq0 Hq1 Hh0 Hh1]
      · isplitl [HS0 HS1]
        · isplitl [HS0]; · iexact HS0
          iexact HS1
        isplitl [Hg]; · iexact Hg
        isplitl [Hq0 Hq1]
        · isplitl [Hq0]; · iexact Hq0
          iexact Hq1
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]
      · rw [el]; iexact H17
      iexists _; isplitr; swap; · iexact H18
      ipureintro; exact fun h => absurd h (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ marked (leftAt m c) := fun t => by
  rw [bigSep_W0, bigSep_W0, defs₀_row]
  exact triple_restated (sound_body m c t) rfl .rfl fun _ => .rfl

theorem inv_in (c : Dev nD) : (Pipeline.ΦD osem0 spec0 H0 (V m) c : sProp 𝕄) ⊢ (dats m 0 c).Φ 0 := by
  rw [show (dats m 0 c).Φ 0 = Pipeline.ΦD osem0 spec0 H0 (V m) c from
    (if_pos rfl : (if 0 = 0 then Pipeline.ΦD osem0 spec0 H0 (V m) c else held m c) = Pipeline.ΦD osem0 spec0 H0 (V m) c)]

theorem inv_out (c : Dev nD) : (dats m 0 c).Φ (Fin.last cfg0.N) ⊢ (Pipeline.ΦD osem0 spec0 H0 (V m) c : sProp 𝕄) := by
  rw [show (dats m 0 c).Φ (Fin.last cfg0.N) = held m c from
    (if_neg (by decide) : (if 33 = 0 then Pipeline.ΦD osem0 spec0 H0 (V m) c else held m c) = held m c), PhiD0_eq]
  unfold held
  iintro ⟨⟨HS0, HS1⟩, Hg, Hq, Hh⟩
  isplitl [HS0 HS1]
  · isplitl [HS0]; · iexists _; iexact HS0
    iexists _; iexact HS1
  isplitl [Hg]; · iexact Hg
  isplitl [Hq]; · iexact Hq
  iexact Hh

/-- What the run leaves each window's array with. -/
def rdats (c : Dev nD) : Pipeline.RDat τ (Elt F) Unit ℕ (Pipeline.UD sig nD τ) ℕ cfg0 c :=
  (dats m 0 c).toRRel marked (leftAt m c)

set_option backward.isDefEq.respectTransparency.types false in
/-- The launch runs to its end, with the arrays as the windows' contents say and every counter at zero. -/
theorem run_quiescent : θ_run defs (onTc (τ := τ) (main (F := F))) (s₀ m ρ)
    (fun r => (Pipeline.RDat.FramePost (cfgs 0) (rdats m) (V m)) r ∧ r.2.sem = fun _ => 0) :=
  Pipeline.RDat.θ_run_frame_dma (Q' := _) cfgs (0 : Fin 1) launch0 osem0 defs₀ Variants.none (rdats m) ownSemFacts0 H0 H0_sub m ρ main
    (fun c => (body_obligation m c).toRRel) (fun c => (dats m 0 c).share_full fun _ => rfl)
    (fun _ _ => rfl) (V m) (hmain m Variants.none) (A_eq m) (inv_in m) (inv_out m)

theorem run_main : θ_run defs (onTc (τ := τ) (main (F := F))) (s₀ m ρ) (Pipeline.RDat.FramePost (cfgs 0) (rdats m) (V m)) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (rdats m) (A_eq m) (run_main m ρ)

/-- The arguments end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_quiescent m ρ))

end Cert.ChanIdeal

end
-- ==== Proof.ChBlocks.lean ====
module

public import proofs.«01_k».proof.Proof.ChKernel
public import proofs.«01_k».proof.Proof.IdChFrame
public import Idealize.ShloMosaic.Lib.Pipeline.ArrRel
public import Idealize.ShloMosaic.Lib.Claim
public import Idealize.ShloMosaic.Lib.StableHlo.ReadAt

@[expose] public section
set_option maxRecDepth 16384
noncomputable section
namespace Cert.ChanIdeal
open Cert.ChannelIdeal Cert.ChannelIdeal.Gen Cert.ChSpec Idealize.ShloMosaic Idealize.ShloMosaic.TcCoe Idealize.SL.Sem
variable (m : (ℓ : Loc nD τ sig) → Buf (Elt Ideal) ℓ)

/-- The arguments, read from a device's memory. -/
def argsK (c : Dev nD) : Args where
  a0 := m (c, Proc.tc.devRef main_arg0)
  a1 := m (c, Proc.tc.devRef main_arg1)
  a2 := m (c, Proc.tc.devRef main_arg2)
  a3 := m (c, Proc.tc.devRef main_arg3)
  a4 := m (c, Proc.tc.devRef main_arg4)
  a5 := m (c, Proc.tc.devRef main_arg5)
  a6 := m (c, Proc.tc.devRef main_arg6)
  a7 := m (c, Proc.tc.devRef main_arg7)
  a8 := m (c, Proc.tc.devRef main_arg8)
  a9 := m (c, Proc.tc.devRef main_arg9)
  a10 := m (c, Proc.tc.devRef main_arg10)
  a11 := m (c, Proc.tc.devRef main_arg11)
  a12 := m (c, Proc.tc.devRef main_arg12)
  a13 := m (c, Proc.tc.devRef main_arg13)
  a14 := m (c, Proc.tc.devRef main_arg14)
  a15 := m (c, Proc.tc.devRef main_arg15)
  a16 := m (c, Proc.tc.devRef main_arg16)
  a17 := m (c, Proc.tc.devRef main_arg17)
  a18 := m (c, Proc.tc.devRef main_arg18)

/-- Input window 0's block at point `t` is a block of 512 rows of its array. -/
theorem blk0 (c : Dev nD) (t : Fin cfg0.N) (r : Fin 512) (l : Fin 1024) :
    iblk m c 0 t (ix2 r l) = (V m c main_v18 : (⟨2, ![16384, 1024]⟩ : Shape).Idx → _) (ix2 ⟨min t.val 31 * 512 + r.val, by omega⟩ l) := by
  have e : ∀ t : Fin cfg0.N, win0_0.index t 0 = min t.val 31 ∧ win0_0.index t 1 = 0 :=
    (by decide +kernel : ∀ t : Fin grid0.N, win0_0.index t 0 = min t.val 31 ∧ win0_0.index t 1 = 0)
  show V m c main_v18 _ = _
  refine congrArg _ (funext fun a => Fin.ext ?_)
  match a with
  | 0 =>
    refine ((win0_0.rect_emb_val t (ix2 r l) 0).trans ?_)
    rw [(e t).1]
    rfl
  | 1 =>
    refine ((win0_0.rect_emb_val t (ix2 r l) 1).trans ?_)
    rw [(e t).2]
    show 0 * 1024 + l.val = l.val
    omega

/-- Input window 1's block at point `t` is a block of 512 rows of its array. -/
theorem blk1 (c : Dev nD) (t : Fin cfg0.N) (r : Fin 512) (l : Fin 1024) :
    iblk m c 1 t (ix2 r l) = (V m c main_v19 : (⟨2, ![16384, 1024]⟩ : Shape).Idx → _) (ix2 ⟨min t.val 31 * 512 + r.val, by omega⟩ l) := by
  have e : ∀ t : Fin cfg0.N, win0_1.index t 0 = min t.val 31 ∧ win0_1.index t 1 = 0 :=
    (by decide +kernel : ∀ t : Fin grid0.N, win0_1.index t 0 = min t.val 31 ∧ win0_1.index t 1 = 0)
  show V m c main_v19 _ = _
  refine congrArg _ (funext fun a => Fin.ext ?_)
  match a with
  | 0 =>
    refine ((win0_1.rect_emb_val t (ix2 r l) 0).trans ?_)
    rw [(e t).1]
    rfl
  | 1 =>
    refine ((win0_1.rect_emb_val t (ix2 r l) 1).trans ?_)
    rw [(e t).2]
    show 0 * 1024 + l.val = l.val
    omega

/-- Input window 2's block at point `t` is a block of 512 rows of its array. -/
theorem blk2 (c : Dev nD) (t : Fin cfg0.N) (r : Fin 512) (l : Fin 512) :
    iblk m c 2 t (ix2 r l) = (V m c main_v20 : (⟨2, ![16384, 512]⟩ : Shape).Idx → _) (ix2 ⟨min t.val 31 * 512 + r.val, by omega⟩ l) := by
  have e : ∀ t : Fin cfg0.N, win0_2.index t 0 = min t.val 31 ∧ win0_2.index t 1 = 0 :=
    (by decide +kernel : ∀ t : Fin grid0.N, win0_2.index t 0 = min t.val 31 ∧ win0_2.index t 1 = 0)
  show V m c main_v20 _ = _
  refine congrArg _ (funext fun a => Fin.ext ?_)
  match a with
  | 0 =>
    refine ((win0_2.rect_emb_val t (ix2 r l) 0).trans ?_)
    rw [(e t).1]
    rfl
  | 1 =>
    refine ((win0_2.rect_emb_val t (ix2 r l) 1).trans ?_)
    rw [(e t).2]
    show 0 * 512 + l.val = l.val
    omega

/-- Input window 3's block at point `t` is a block of 512 rows of its array. -/
theorem blk3 (c : Dev nD) (t : Fin cfg0.N) (r : Fin 512) (l : Fin 3072) :
    iblk m c 3 t (ix2 r l) = (V m c main_v21 : (⟨2, ![16384, 3072]⟩ : Shape).Idx → _) (ix2 ⟨min t.val 31 * 512 + r.val, by omega⟩ l) := by
  have e : ∀ t : Fin cfg0.N, win0_3.index t 0 = min t.val 31 ∧ win0_3.index t 1 = 0 :=
    (by decide +kernel : ∀ t : Fin grid0.N, win0_3.index t 0 = min t.val 31 ∧ win0_3.index t 1 = 0)
  show V m c main_v21 _ = _
  refine congrArg _ (funext fun a => Fin.ext ?_)
  match a with
  | 0 =>
    refine ((win0_3.rect_emb_val t (ix2 r l) 0).trans ?_)
    rw [(e t).1]
    rfl
  | 1 =>
    refine ((win0_3.rect_emb_val t (ix2 r l) 1).trans ?_)
    rw [(e t).2]
    show 0 * 3072 + l.val = l.val
    omega

/-- Input window 4's block at point `t` is a block of 512 rows of its array. -/
theorem blk4 (c : Dev nD) (t : Fin cfg0.N) (r : Fin 512) (l : Fin 256) :
    iblk m c 4 t (ix2 r l) = (V m c main_v23 : (⟨2, ![16384, 256]⟩ : Shape).Idx → _) (ix2 ⟨min t.val 31 * 512 + r.val, by omega⟩ l) := by
  have e : ∀ t : Fin cfg0.N, win0_4.index t 0 = min t.val 31 ∧ win0_4.index t 1 = 0 :=
    (by decide +kernel : ∀ t : Fin grid0.N, win0_4.index t 0 = min t.val 31 ∧ win0_4.index t 1 = 0)
  show V m c main_v23 _ = _
  refine congrArg _ (funext fun a => Fin.ext ?_)
  match a with
  | 0 =>
    refine ((win0_4.rect_emb_val t (ix2 r l) 0).trans ?_)
    rw [(e t).1]
    rfl
  | 1 =>
    refine ((win0_4.rect_emb_val t (ix2 r l) 1).trans ?_)
    rw [(e t).2]
    show 0 * 256 + l.val = l.val
    omega

/-- Input window 5's block is its whole array. -/
theorem blk5 (c : Dev nD) (t : Fin cfg0.N) (i : (⟨2, ![512, 1024]⟩ : Shape).Idx) : iblk m c 5 t i = V m c main_v25 i := by
  have e : ∀ t : Fin cfg0.N, ∀ a : Fin 2, win0_5.index t a = 0 := (by decide +kernel : ∀ t : Fin grid0.N, ∀ a : Fin 2, win0_5.index t a = 0)
  show V m c main_v25 _ = _
  refine congrArg _ (funext fun a => Fin.ext ?_)
  exact Pipeline.Window.rect_emb_val_of_index_zero win0_5 t a (e t a) i

/-- Input window 6's block is its whole array. -/
theorem blk6 (c : Dev nD) (t : Fin cfg0.N) (i : (⟨2, ![512, 1024]⟩ : Shape).Idx) : iblk m c 6 t i = V m c main_v27 i := by
  have e : ∀ t : Fin cfg0.N, ∀ a : Fin 2, win0_6.index t a = 0 := (by decide +kernel : ∀ t : Fin grid0.N, ∀ a : Fin 2, win0_6.index t a = 0)
  show V m c main_v27 _ = _
  refine congrArg _ (funext fun a => Fin.ext ?_)
  exact Pipeline.Window.rect_emb_val_of_index_zero win0_6 t a (e t a) i

/-- Input window 7's block is its whole array. -/
theorem blk7 (c : Dev nD) (t : Fin cfg0.N) (i : (⟨2, ![512, 512]⟩ : Shape).Idx) : iblk m c 7 t i = V m c main_v29 i := by
  have e : ∀ t : Fin cfg0.N, ∀ a : Fin 2, win0_7.index t a = 0 := (by decide +kernel : ∀ t : Fin grid0.N, ∀ a : Fin 2, win0_7.index t a = 0)
  show V m c main_v29 _ = _
  refine congrArg _ (funext fun a => Fin.ext ?_)
  exact Pipeline.Window.rect_emb_val_of_index_zero win0_7 t a (e t a) i

/-- Input window 8's block is its whole array. -/
theorem blk8 (c : Dev nD) (t : Fin cfg0.N) (i : (⟨2, ![512, 3072]⟩ : Shape).Idx) : iblk m c 8 t i = V m c main_v31 i := by
  have e : ∀ t : Fin cfg0.N, ∀ a : Fin 2, win0_8.index t a = 0 := (by decide +kernel : ∀ t : Fin grid0.N, ∀ a : Fin 2, win0_8.index t a = 0)
  show V m c main_v31 _ = _
  refine congrArg _ (funext fun a => Fin.ext ?_)
  exact Pipeline.Window.rect_emb_val_of_index_zero win0_8 t a (e t a) i

/-- Input window 9's block is its whole array. -/
theorem blk9 (c : Dev nD) (t : Fin cfg0.N) (i : (⟨2, ![512, 256]⟩ : Shape).Idx) : iblk m c 9 t i = V m c main_v34 i := by
  have e : ∀ t : Fin cfg0.N, ∀ a : Fin 2, win0_9.index t a = 0 := (by decide +kernel : ∀ t : Fin grid0.N, ∀ a : Fin 2, win0_9.index t a = 0)
  show V m c main_v34 _ = _
  refine congrArg _ (funext fun a => Fin.ext ?_)
  exact Pipeline.Window.rect_emb_val_of_index_zero win0_9 t a (e t a) i

/-- Input window 10's block is its whole array. -/
theorem blk10 (c : Dev nD) (t : Fin cfg0.N) (i : (⟨2, ![512, 1024]⟩ : Shape).Idx) : iblk m c 10 t i = V m c main_v1 i := by
  have e : ∀ t : Fin cfg0.N, ∀ a : Fin 2, win0_10.index t a = 0 := (by decide +kernel : ∀ t : Fin grid0.N, ∀ a : Fin 2, win0_10.index t a = 0)
  show V m c main_v1 _ = _
  refine congrArg _ (funext fun a => Fin.ext ?_)
  exact Pipeline.Window.rect_emb_val_of_index_zero win0_10 t a (e t a) i

/-- Input window 11's block is its whole array. -/
theorem blk11 (c : Dev nD) (t : Fin cfg0.N) (i : (⟨2, ![1024, 1024]⟩ : Shape).Idx) : iblk m c 11 t i = V m c main_v3 i := by
  have e : ∀ t : Fin cfg0.N, ∀ a : Fin 2, win0_11.index t a = 0 := (by decide +kernel : ∀ t : Fin grid0.N, ∀ a : Fin 2, win0_11.index t a = 0)
  show V m c main_v3 _ = _
  refine congrArg _ (funext fun a => Fin.ext ?_)
  exact Pipeline.Window.rect_emb_val_of_index_zero win0_11 t a (e t a) i

/-- Input window 12's block is its whole array. -/
theorem blk12 (c : Dev nD) (t : Fin cfg0.N) (i : (⟨2, ![1024, 1024]⟩ : Shape).Idx) : iblk m c 12 t i = V m c main_v5 i := by
  have e : ∀ t : Fin cfg0.N, ∀ a : Fin 2, win0_12.index t a = 0 := (by decide +kernel : ∀ t : Fin grid0.N, ∀ a : Fin 2, win0_12.index t a = 0)
  show V m c main_v5 _ = _
  refine congrArg _ (funext fun a => Fin.ext ?_)
  exact Pipeline.Window.rect_emb_val_of_index_zero win0_12 t a (e t a) i

/-- Input window 13's block is its whole array. -/
theorem blk13 (c : Dev nD) (t : Fin cfg0.N) (i : (⟨2, ![1, 1024]⟩ : Shape).Idx) : iblk m c 13 t i = V m c main_v15 i := by
  have e : ∀ t : Fin cfg0.N, ∀ a : Fin 2, win0_13.index t a = 0 := (by decide +kernel : ∀ t : Fin grid0.N, ∀ a : Fin 2, win0_13.index t a = 0)
  show V m c main_v15 _ = _
  refine congrArg _ (funext fun a => Fin.ext ?_)
  exact Pipeline.Window.rect_emb_val_of_index_zero win0_13 t a (e t a) i

/-- Input window 14's block is its whole array. -/
theorem blk14 (c : Dev nD) (t : Fin cfg0.N) (i : (⟨2, ![1, 1024]⟩ : Shape).Idx) : iblk m c 14 t i = V m c main_v17 i := by
  have e : ∀ t : Fin cfg0.N, ∀ a : Fin 2, win0_14.index t a = 0 := (by decide +kernel : ∀ t : Fin grid0.N, ∀ a : Fin 2, win0_14.index t a = 0)
  show V m c main_v17 _ = _
  refine congrArg _ (funext fun a => Fin.ext ?_)
  exact Pipeline.Window.rect_emb_val_of_index_zero win0_14 t a (e t a) i

/-- Input window 15's block is its whole array. -/
theorem blk15 (c : Dev nD) (t : Fin cfg0.N) (i : (⟨2, ![1024, 1024]⟩ : Shape).Idx) : iblk m c 15 t i = V m c main_v11 i := by
  have e : ∀ t : Fin cfg0.N, ∀ a : Fin 2, win0_15.index t a = 0 := (by decide +kernel : ∀ t : Fin grid0.N, ∀ a : Fin 2, win0_15.index t a = 0)
  show V m c main_v11 _ = _
  refine congrArg _ (funext fun a => Fin.ext ?_)
  exact Pipeline.Window.rect_emb_val_of_index_zero win0_15 t a (e t a) i

/-- Input window 16's block is its whole array. -/
theorem blk16 (c : Dev nD) (t : Fin cfg0.N) (i : (⟨2, ![256, 1024]⟩ : Shape).Idx) : iblk m c 16 t i = V m c main_v13 i := by
  have e : ∀ t : Fin cfg0.N, ∀ a : Fin 2, win0_16.index t a = 0 := (by decide +kernel : ∀ t : Fin grid0.N, ∀ a : Fin 2, win0_16.index t a = 0)
  show V m c main_v13 _ = _
  refine congrArg _ (funext fun a => Fin.ext ?_)
  exact Pipeline.Window.rect_emb_val_of_index_zero win0_16 t a (e t a) i

end Cert.ChanIdeal
-- ==== Proof.ChHost.lean ====
module

public import proofs.«01_k».proof.Proof.ChBlocks
public import Idealize.ShloMosaic.Lib.Pipeline.ArrRel
public import Idealize.ShloMosaic.Lib.Claim
public import Idealize.ShloMosaic.Lib.StableHlo.ReadAt

@[expose] public section
set_option maxRecDepth 16384
noncomputable section
namespace Cert.ChanIdeal
open Cert.ChannelIdeal Cert.ChannelIdeal.Gen Cert.ChSpec Idealize.ShloMosaic Idealize.ShloMosaic.TcCoe Idealize.SL.Sem
variable (m : (ℓ : Loc nD τ sig) → Buf (Elt Ideal) ℓ)

/-- The prepared array `v18`, read at an index. -/
theorem Vv18 (c : Dev nD) (r : Fin 16384) (l : Fin 1024) : (V m c main_v18 : (⟨2, ![16384, 1024]⟩ : Shape).Idx → EReal) (ix2 r l) = ((argsK m c).fst ⟨r.val / 2048, by omega⟩ ⟨r.val % 2048, by omega⟩).x l := by
  unfold V
  after_reads_at
  rfl

/-- The prepared array `v19`, read at an index. -/
theorem Vv19 (c : Dev nD) (r : Fin 16384) (l : Fin 1024) : (V m c main_v19 : (⟨2, ![16384, 1024]⟩ : Shape).Idx → EReal) (ix2 r l) = ((argsK m c).fst ⟨r.val / 2048, by omega⟩ ⟨r.val % 2048, by omega⟩).h l := by
  unfold V
  after_reads_at
  rfl

/-- The prepared array `v20`, read at an index. -/
theorem Vv20 (c : Dev nD) (r : Fin 16384) (l : Fin 512) : (V m c main_v20 : (⟨2, ![16384, 512]⟩ : Shape).Idx → EReal) (ix2 r l) = ((argsK m c).fst ⟨r.val / 2048, by omega⟩ ⟨r.val % 2048, by omega⟩).a l := by
  unfold V
  after_reads_at
  rfl

/-- The prepared array `v21`, read at an index. -/
theorem Vv21 (c : Dev nD) (r : Fin 16384) (l : Fin 3072) : (V m c main_v21 : (⟨2, ![16384, 3072]⟩ : Shape).Idx → EReal) (ix2 r l) = ((argsK m c).fst ⟨r.val / 2048, by omega⟩ ⟨r.val % 2048, by omega⟩).pre l := by
  unfold V
  after_reads_at
  rfl

/-- The prepared array `v23`, read at an index. -/
theorem Vv23 (c : Dev nD) (r : Fin 16384) (l : Fin 256) : (V m c main_v23 : (⟨2, ![16384, 256]⟩ : Shape).Idx → EReal) (ix2 r l) = ((argsK m c).fst ⟨r.val / 2048, by omega⟩ ⟨r.val % 2048, by omega⟩).p l := by
  unfold V
  after_reads_at
  rfl

/-- The prepared array `v25`, read at an index. -/
theorem Vv25 (c : Dev nD) (r : Fin 512) (l : Fin 1024) : (V m c main_v25 : (⟨2, ![512, 1024]⟩ : Shape).Idx → EReal) (ix2 r l) = ((argsK m c).snd ⟨r.val % 128, by omega⟩ ⟨r.val / 128, by omega⟩).x l := by
  unfold V
  after_reads_at
  rfl

/-- The prepared array `v27`, read at an index. -/
theorem Vv27 (c : Dev nD) (r : Fin 512) (l : Fin 1024) : (V m c main_v27 : (⟨2, ![512, 1024]⟩ : Shape).Idx → EReal) (ix2 r l) = ((argsK m c).snd ⟨r.val % 128, by omega⟩ ⟨r.val / 128, by omega⟩).h l := by
  unfold V
  after_reads_at
  rfl

/-- The prepared array `v29`, read at an index. -/
theorem Vv29 (c : Dev nD) (r : Fin 512) (l : Fin 512) : (V m c main_v29 : (⟨2, ![512, 512]⟩ : Shape).Idx → EReal) (ix2 r l) = ((argsK m c).snd ⟨r.val % 128, by omega⟩ ⟨r.val / 128, by omega⟩).a l := by
  unfold V
  after_reads_at
  rfl

/-- The prepared array `v31`, read at an index. -/
theorem Vv31 (c : Dev nD) (r : Fin 512) (l : Fin 3072) : (V m c main_v31 : (⟨2, ![512, 3072]⟩ : Shape).Idx → EReal) (ix2 r l) = ((argsK m c).snd ⟨r.val % 128, by omega⟩ ⟨r.val / 128, by omega⟩).pre l := by
  unfold V
  after_reads_at
  rfl

/-- The prepared array `v34`, read at an index. -/
theorem Vv34 (c : Dev nD) (r : Fin 512) (l : Fin 256) : (V m c main_v34 : (⟨2, ![512, 256]⟩ : Shape).Idx → EReal) (ix2 r l) = ((argsK m c).snd ⟨r.val % 128, by omega⟩ ⟨r.val / 128, by omega⟩).p l := by
  unfold V
  after_reads_at
  rfl

/-- The prepared array `v1`, read at an index. -/
theorem Vv1 (c : Dev nD) (r : Fin 512) (l : Fin 1024) : (V m c main_v1 : (⟨2, ![512, 1024]⟩ : Shape).Idx → EReal) (ix2 r l) = (argsK m c).w.woa r l := by
  unfold V
  after_reads_at
  rfl

/-- The prepared array `v3`, read at an index. -/
theorem Vv3 (c : Dev nD) (r : Fin 1024) (l : Fin 1024) : (V m c main_v3 : (⟨2, ![1024, 1024]⟩ : Shape).Idx → EReal) (ix2 r l) = (argsK m c).w.wor r l := by
  unfold V
  after_reads_at
  rfl

/-- The prepared array `v5`, read at an index. -/
theorem Vv5 (c : Dev nD) (r : Fin 1024) (l : Fin 1024) : (V m c main_v5 : (⟨2, ![1024, 1024]⟩ : Shape).Idx → EReal) (ix2 r l) = (argsK m c).w.wout r l := by
  unfold V
  after_reads_at
  rfl

/-- The prepared array `v15`, read at an index. -/
theorem Vv15 (c : Dev nD) (l : Fin 1024) : (V m c main_v15 : (⟨2, ![1, 1024]⟩ : Shape).Idx → EReal) (ix2 0 l) = (argsK m c).w.g l := by
  unfold V
  after_reads_at
  rfl

/-- The prepared array `v17`, read at an index. -/
theorem Vv17 (c : Dev nD) (l : Fin 1024) : (V m c main_v17 : (⟨2, ![1, 1024]⟩ : Shape).Idx → EReal) (ix2 0 l) = (argsK m c).w.pg l := by
  unfold V
  after_reads_at
  rfl

/-- The prepared array `v11`, read at an index. -/
theorem Vv11 (c : Dev nD) (r : Fin 1024) (l : Fin 1024) : (V m c main_v11 : (⟨2, ![1024, 1024]⟩ : Shape).Idx → EReal) (ix2 r l) = (argsK m c).w.wpg r l := by
  unfold V
  after_reads_at
  rfl

/-- The prepared array `v13`, read at an index. -/
theorem Vv13 (c : Dev nD) (r : Fin 256) (l : Fin 1024) : (V m c main_v13 : (⟨2, ![256, 1024]⟩ : Shape).Idx → EReal) (ix2 r l) = (argsK m c).w.wple r l := by
  unfold V
  after_reads_at
  rfl

/-- The prepared array `v7`, read at an index. -/
theorem Vv7 (c : Dev nD) (r : Fin 1024) (l : Fin 4096) : (V m c main_v7 : (⟨2, ![1024, 4096]⟩ : Shape).Idx → EReal) (ix2 r l) = (argsK m c).w.wup r l := by
  unfold V
  after_reads_at
  rfl

/-- The prepared array `v9`, read at an index. -/
theorem Vv9 (c : Dev nD) (r : Fin 4096) (l : Fin 1024) : (V m c main_v9 : (⟨2, ![4096, 1024]⟩ : Shape).Idx → EReal) (ix2 r l) = (argsK m c).w.wdn r l := by
  unfold V
  after_reads_at
  rfl

end Cert.ChanIdeal
-- ==== Proof.ChFinal.lean ====
module

public import proofs.«01_k».proof.Proof.ChHost

@[expose] public section
set_option maxRecDepth 16384
noncomputable section
namespace Cert.ChanIdeal
open Cert.ChannelIdeal Cert.ChannelIdeal.Gen Cert.ChSpec Idealize.ShloMosaic Idealize.ShloMosaic.TcCoe Idealize.SL.Sem
variable (m : (ℓ : Loc nD τ sig) → Buf (Elt Ideal) ℓ)

/-- What the body reads of the prompt's rows at a point. -/
theorem ins_fst (c : Dev nD) (t : Fin cfg0.N) :
    Ins (argsK m c).w (fun r => (argsK m c).fst ⟨(min t.val 31 * 512 + r.val) / 2048, by omega⟩ ⟨(min t.val 31 * 512 + r.val) % 2048, by omega⟩)
      (iblk m c 0 t) (iblk m c 1 t) (iblk m c 2 t) (iblk m c 3 t) (iblk m c 4 t) (iblk m c 10 t) (iblk m c 11 t) (iblk m c 12 t) (iblk m c 13 t) (iblk m c 14 t) (iblk m c 15 t) (iblk m c 16 t) (wUp m c) (wDown m c) :=
  ⟨fun r l => (blk0 m c t r l).trans (Vv18 m c _ l),
    fun r l => (blk1 m c t r l).trans (Vv19 m c _ l),
    fun r l => (blk2 m c t r l).trans (Vv20 m c _ l),
    fun r l => (blk3 m c t r l).trans (Vv21 m c _ l),
    fun r l => (blk4 m c t r l).trans (Vv23 m c _ l),
    fun r l => (blk10 m c t (ix2 r l)).trans (Vv1 m c r l),
    fun r l => (blk11 m c t (ix2 r l)).trans (Vv3 m c r l),
    fun r l => (blk12 m c t (ix2 r l)).trans (Vv5 m c r l),
    fun l => (blk13 m c t (ix2 0 l)).trans (Vv15 m c l),
    fun l => (blk14 m c t (ix2 0 l)).trans (Vv17 m c l),
    fun r l => (blk15 m c t (ix2 r l)).trans (Vv11 m c r l),
    fun r l => (blk16 m c t (ix2 r l)).trans (Vv13 m c r l),
    fun k j => Vv7 m c k j,
    fun j l => Vv9 m c j l⟩

/-- What the body reads of the samples' rows. -/
theorem ins_snd (c : Dev nD) (t : Fin cfg0.N) :
    Ins (argsK m c).w (fun r => (argsK m c).snd ⟨r.val % 128, by omega⟩ ⟨r.val / 128, by omega⟩)
      (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (wUp m c) (wDown m c) :=
  ⟨fun r l => (blk5 m c t (ix2 r l)).trans (Vv25 m c r l),
    fun r l => (blk6 m c t (ix2 r l)).trans (Vv27 m c r l),
    fun r l => (blk7 m c t (ix2 r l)).trans (Vv29 m c r l),
    fun r l => (blk8 m c t (ix2 r l)).trans (Vv31 m c r l),
    fun r l => (blk9 m c t (ix2 r l)).trans (Vv34 m c r l),
    fun r l => (blk10 m c t (ix2 r l)).trans (Vv1 m c r l),
    fun r l => (blk11 m c t (ix2 r l)).trans (Vv3 m c r l),
    fun r l => (blk12 m c t (ix2 r l)).trans (Vv5 m c r l),
    fun l => (blk13 m c t (ix2 0 l)).trans (Vv15 m c l),
    fun l => (blk14 m c t (ix2 0 l)).trans (Vv17 m c l),
    fun r l => (blk15 m c t (ix2 r l)).trans (Vv11 m c r l),
    fun r l => (blk16 m c t (ix2 r l)).trans (Vv13 m c r l),
    fun k j => Vv7 m c k j,
    fun j l => Vv9 m c j l⟩

/-- The block of the prompt's rows that a point stores, read at an index. -/
theorem outFst_at (c : Dev nD) (t : Fin cfg0.N) (r : Fin 512) (l : Fin 1024) :
    (outFst m c t (ix2 r l) : EReal) = ChSpec.outFst (argsK m c) ⟨min t.val 31 * 512 + r.val, by omega⟩ l :=
  rows_at _ _ _ _ _ _ _ _ _ _ _ _ _ _ _ _ (ins_fst m c t) r l

/-- The block of the samples' rows, read at an index. -/
theorem outSnd_at (c : Dev nD) (t : Fin cfg0.N) (r : Fin 512) (l : Fin 1024) :
    (outSnd m c t (ix2 r l) : EReal) = ChSpec.outSnd (argsK m c) r l := by
  unfold outSnd
  rw [rowsSnd_eq]
  exact rows_at _ _ _ _ _ _ _ _ _ _ _ _ _ _ _ _ (ins_snd m c t) r l

/-- The first result after the run. -/
theorem fin17 (c : Dev nD) {r : PUnit × MemSt nD τ sig (Elt Ideal)} (h : Pipeline.RDat.FramePost (cfgs 0) (rdats m) (V m) r) (i : Fin 16384) (l : Fin 1024) :
    ((r.2.mem ((c.tc : Thread nD τ).loc main_v35_0) : T2 16384 1024) (ix2 i l) : EReal) = ChSpec.outFst (argsK m c) i l := by
  obtain ⟨after, hl, hG⟩ := Pipeline.RDat.FramePost.exists_exact h c
  have ha : ∀ t : Fin cfg0.N, (cfg0.win 17).flush t = true → after 17 t = outFst m c (lastFst t) := by
    intro t hf
    obtain ⟨Y, -, hX⟩ := hl 17 t hf
    have e : (rdats m c).after 17 = (dats m 0 c).toR.after 17 := (dats m 0 c).toRRel_after_of_eq_false rfl
    rw [e] at hX
    exact ((Pipeline.Dat.Leaves.live_iff (dats m 0 c) (Or.inr hf)).1 hX).trans (after0_17 m c t)
  have e : ∀ t : Fin cfg0.N, win0_17.index t 0 = min t.val 31 ∧ win0_17.index t 1 = 0 :=
    (by decide +kernel : ∀ t : Fin grid0.N, win0_17.index t 0 = min t.val 31 ∧ win0_17.index t 1 = 0)
  have key : ((rdats m c).withAfter after).arrAt 17 cfg0.N = (fun j : (⟨2, ![16384, 1024]⟩ : Shape).Idx => ChSpec.outFst (argsK m c) (j 0) (j 1)) := by
    refine Pipeline.Dat.arrAt_eq_of_covers _ 17 _ (by decide +kernel) fun t hf y => ?_
    blk_simp
    rw [Pipeline.RDat.withAfter_after, ha t hf]
    obtain ⟨a, b, rfl⟩ : ∃ (a : Fin 512) (b : Fin 1024), y = ix2 a b := ⟨y 0, y 1, eq_ix2 y⟩
    refine (outFst_at m c (lastFst t) a b).trans ?_
    have h0 : ((((cfg0.win 17).blk t).view.emb (ix2 a b)) 0).val = min t.val 31 * 512 + a.val := by
      refine ((win0_17.rect_emb_val t (ix2 a b) 0).trans ?_); rw [(e t).1]; rfl
    have h1 : ((((cfg0.win 17).blk t).view.emb (ix2 a b)) 1).val = b.val := by
      refine ((win0_17.rect_emb_val t (ix2 a b) 1).trans ?_); rw [(e t).2]; exact Nat.zero_add _
    have hl' : min (lastFst t).val 31 = min t.val 31 := (by decide +kernel : ∀ t : Fin cfg0.N, min (lastFst t).val 31 = min t.val 31) t
    exact congrArg₂ (ChSpec.outFst (argsK m c)) (Fin.ext ((congrArg (· * 512 + a.val) hl').trans h0.symm)) (Fin.ext h1.symm)
  exact (congrFun (hG 17) (ix2 i l)).trans (congrFun key (ix2 i l))

/-- The grid's last point, where the samples' rows are stored. -/
def lastPt : Fin cfg0.N := ⟨32, by decide +kernel⟩

/-- The second result after the run. -/
theorem fin18 (c : Dev nD) {r : PUnit × MemSt nD τ sig (Elt Ideal)} (h : Pipeline.RDat.FramePost (cfgs 0) (rdats m) (V m) r) (i : Fin 512) (l : Fin 1024) :
    ((r.2.mem ((c.tc : Thread nD τ).loc main_v35_1) : T2 512 1024) (ix2 i l) : EReal) = ChSpec.outSnd (argsK m c) i l := by
  obtain ⟨after, hl, hG⟩ := Pipeline.RDat.FramePost.exists_exact h c
  have ha : after 18 lastPt = outSnd m c lastPt :=
    (dats m 0 c).toRRel_leaves (fgt := marked) (Rl := leftAt m c) (w := 18) rfl (hl 18 lastPt (by decide +kernel)) rfl
  have key : ((rdats m c).withAfter after).arrAt 18 cfg0.N = (fun j : (⟨2, ![512, 1024]⟩ : Shape).Idx => outSnd m c lastPt j) := by
    refine Pipeline.Dat.arrAt_eq_of_after_last _ 18 lastPt (by decide +kernel) _ fun j => ?_
    blk_simp
    exact congrFun ha j
  exact ((congrFun (hG 18) (ix2 i l)).trans (congrFun key (ix2 i l))).trans (outSnd_at m c _ i l)

end Cert.ChanIdeal
-- ==== Proof.ChRef.lean ====
module

public import proofs.«01_k».proof.Proof.Gen.ChannelRefIdeal.Run
public import proofs.«01_k».proof.Proof.ChSpec

@[expose] public section
set_option maxRecDepth 16384
noncomputable section
namespace Cert.ChannelRefIdeal.Hand
open Cert.ChannelRefIdeal Cert.ChannelRefIdeal.Value Cert.ChSpec Idealize.ShloMosaic Idealize.ShloMosaic.TcCoe Idealize.SL.Sem

variable (V : Valuation τ sig (Elt Ideal))

/-- The argument arrays that a valuation holds. -/
def argsR : Args where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)
  a14 := V (Proc.devRef .tc main_arg14)
  a15 := V (Proc.devRef .tc main_arg15)
  a16 := V (Proc.devRef .tc main_arg16)
  a17 := V (Proc.devRef .tc main_arg17)
  a18 := V (Proc.devRef .tc main_arg18)

/-- The residual of the prompt after the branches. -/
theorem v42 (s : Fin 8) (t : Fin 2048) (l : Fin 1024) : (res_main_v42 (F := Ideal) V (ix3 s t l) : EReal) = mid (argsR V).w ((argsR V).fst s t) l := by
  pointwise [res_main_v42, res_main_v3, res_main_v4]
  simp only [cube]
  rfl

/-- The hidden layer of the prompt before its square. -/
theorem v59 (s : Fin 8) (t : Fin 2048) (l : Fin 4096) : (res_main_v59 (F := Ideal) V (ix3 s t l) : EReal)
    = max (∑ k, rms (mid (argsR V).w ((argsR V).fst s t)) (argsR V).w.g k * (argsR V).w.wup k l) 0 := by
  pointwise [res_main_v59]
  simp only [v42]
  rfl

/-- The residual of the prompt after the dense layer. -/
theorem v63 (s : Fin 8) (t : Fin 2048) (l : Fin 1024) : (res_main_v63 (F := Ideal) V (ix3 s t l) : EReal) = acc (argsR V).w ((argsR V).fst s t) l := by
  pointwise [res_main_v63]
  simp only [v42, v59]
  rfl

/-- The residual of the samples after the branches. -/
theorem v132 (s : Fin 128) (t : Fin 4) (l : Fin 1024) : (res_main_v132 (F := Ideal) V (ix3 s t l) : EReal) = mid (argsR V).w ((argsR V).snd s t) l := by
  pointwise [res_main_v132, res_main_v93, res_main_v94]
  simp only [cube]
  rfl

/-- The hidden layer of the samples before its square. -/
theorem v149 (s : Fin 128) (t : Fin 4) (l : Fin 4096) : (res_main_v149 (F := Ideal) V (ix3 s t l) : EReal)
    = max (∑ k, rms (mid (argsR V).w ((argsR V).snd s t)) (argsR V).w.g k * (argsR V).w.wup k l) 0 := by
  pointwise [res_main_v149]
  simp only [v132]
  rfl

/-- The residual of the samples after the dense layer. -/
theorem v153 (s : Fin 128) (t : Fin 4) (l : Fin 1024) : (res_main_v153 (F := Ideal) V (ix3 s t l) : EReal) = acc (argsR V).w ((argsR V).snd s t) l := by
  pointwise [res_main_v153]
  simp only [v132, v149]
  rfl

/-- The argument arrays that a memory holds on device `c`. -/
def argsM (m : (ℓ : Loc nD τ sig) → Buf (Elt Ideal) ℓ) (c : Dev nD) : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)

/-- The reference runs: its two results hold the rows of the prompt and of the samples, and its arguments are kept. -/
theorem runH (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      ((∀ (i : Fin 16384) (l : Fin 1024), ((r.2.mem ((c.tc : Thread nD τ).loc main_v180) : T2 16384 1024) (ix2 i l) : EReal) = outFst (argsM m c) i l)
      ∧ (∀ (i : Fin 512) (l : Fin 1024), ((r.2.mem ((c.tc : Thread nD τ).loc main_v182) : T2 512 1024) (ix2 i l) : EReal) = outSnd (argsM m c) i l))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine (θ_run (defs (F := Ideal)) _ _).mono (fun r h c => ?_) (run (F := Ideal) m ρ)
  refine ⟨⟨?_, ?_⟩, (h c).2.2⟩
  · intro i l
    rw [(h c).1]
    pointwise
    simp only [v63]
    rfl
  · intro i l
    rw [(h c).2.1]
    pointwise
    simp only [v153]
    rfl

end Cert.ChannelRefIdeal.Hand
-- ==== Proof.ChClaim.lean ====
module

public import proofs.«01_k».proof.Defs
public import proofs.«01_k».proof.Proof.ChFrame
public import proofs.«01_k».proof.Proof.ChFinal
public import proofs.«01_k».proof.Proof.ChRef
public import Idealize.ShloMosaic.Lib.Quiescent

@[expose] public section
set_option maxRecDepth 16384
noncomputable section
namespace Cert.ChClaim
open Cert.ChSpec Idealize.ShloMosaic Idealize.ShloMosaic.TcCoe Idealize.SL.Sem

/-- The merged call's frame over the bit-exact floats. -/
theorem frame_p : Cert.quiescent_Channel := fun m ρ _ => Cert.Chan.frame (F := Bits) m ρ

/-- The merged call's frame at the extended reals. -/
theorem frame_pi : Cert.quiescent_ChannelIdeal := fun m ρ _ => Cert.ChanIdeal.frame (F := Ideal) m ρ

/-- The reference's frame at the extended reals. -/
theorem frame_ri : Cert.quiescent_ChannelRefIdeal := fun m ρ _ =>
  (θ_run (Cert.ChannelRefIdeal.defs (F := Ideal)) _ _).mono (fun r h => ⟨fun c => (h c).2, sem_eq_zero_of_no_sems (by decide) r.2⟩)
    (Cert.ChannelRefIdeal.Hand.runH m ρ)

open Cert.ChannelIdeal in
/-- The kernel's run: both results element by element, and the arguments as launched. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35_0) = (fun i : (⟨2, ![16384, 1024]⟩ : Shape).Idx => outFst (Cert.ChanIdeal.argsK m c) (i 0) (i 1))
      ∧ r.2.mem ((c.tc : Thread nD τ).loc main_v35_1) = (fun i : (⟨2, ![512, 1024]⟩ : Shape).Idx => outSnd (Cert.ChanIdeal.argsK m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine (θ_run (defs (F := Ideal)) _ _).mono (fun r h c => ⟨?_, ?_, h.2 c⟩) (θ_run_and (Cert.ChanIdeal.run_main (F := Ideal) m ρ) (Cert.ChanIdeal.unchanged (F := Ideal) m ρ))
  · funext i
    obtain ⟨a, b, rfl⟩ : ∃ (a : Fin 16384) (b : Fin 1024), i = ix2 a b := ⟨i 0, i 1, eq_ix2 i⟩
    exact Cert.ChanIdeal.fin17 m c h.1 a b
  · funext i
    obtain ⟨a, b, rfl⟩ : ∃ (a : Fin 512) (b : Fin 1024), i = ix2 a b := ⟨i 0, i 1, eq_ix2 i⟩
    exact Cert.ChanIdeal.fin18 m c h.1 a b

/-- The merged call and its reference have equal results. -/
theorem algebraic : Cert.algebraic_ChannelIdeal_ChannelRefIdeal := by
  intro m g m' g' _ hag
  have hA : ∀ c, Cert.ChannelRefIdeal.Hand.argsM m' c = Cert.ChanIdeal.argsK m c := by
    intro c
    unfold Cert.ChannelRefIdeal.Hand.argsM Cert.ChanIdeal.argsK
    rw [Args.mk.injEq]
    exact hag c
  refine ⟨fun c => (fun i : (⟨2, ![16384, 1024]⟩ : Shape).Idx => outFst (Cert.ChanIdeal.argsK m c) (i 0) (i 1)),
    fun c => (fun i : (⟨2, ![512, 1024]⟩ : Shape).Idx => outSnd (Cert.ChanIdeal.argsK m c) (i 0) (i 1)), ?_, ?_⟩
  · exact run_kernel m g
  · refine (θ_run (Cert.ChannelRefIdeal.defs (F := Ideal)) _ _).mono (fun r h c => ⟨?_, ?_, (h c).2⟩) (Cert.ChannelRefIdeal.Hand.runH m' g')
    all_goals have hc := h c; rw [hA c] at hc
    · funext i
      obtain ⟨a, b, rfl⟩ : ∃ (a : Fin 16384) (b : Fin 1024), i = ix2 a b := ⟨i 0, i 1, eq_ix2 i⟩
      exact hc.1.1 a b
    · funext i
      obtain ⟨a, b, rfl⟩ : ∃ (a : Fin 512) (b : Fin 1024), i = ix2 a b := ⟨i 0, i 1, eq_ix2 i⟩
      exact hc.1.2 a b

end Cert.ChClaim
-- ==== Proof.lean ====
module

public import proofs.«01_k».proof.Defs
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.MixerRefIdeal
public import proofs.«01_k».proof.Proof.Gen.On_exact_decay
public import proofs.«01_k».proof.Proof.Gen.MixerRefIdeal.Run
public import proofs.«01_k».proof.Proof.Gen.MixerRefIdeal.Read
public import proofs.«01_k».proof.Proof.MixClaim
public import proofs.«01_k».proof.Proof.Gen.Channel
public import proofs.«01_k».proof.Proof.Gen.ChannelIdeal
public import proofs.«01_k».proof.Proof.Gen.ChannelRefIdeal
public import proofs.«01_k».proof.Proof.Gen.ChannelRefIdeal.Run
public import proofs.«01_k».proof.Proof.ChClaim

@[expose] public section

namespace Cert.Proof

/-- Every claim of the certificate. -/
theorem claim : Cert.Claim := ⟨Cert.Mixer.Gen.facts, Cert.MixerIdeal.Gen.facts, Cert.MixerRefIdeal.Gen.facts,
  Cert.Channel.Gen.facts, Cert.ChannelIdeal.Gen.facts, Cert.ChannelRefIdeal.Gen.facts, Cert.On_exact_decay.Gen.facts,
  Cert.MixClaim.frame_p, Cert.MixClaim.frame_pi, Cert.MixClaim.frame_ri,
  Cert.ChClaim.frame_p, Cert.ChClaim.frame_pi, Cert.ChClaim.frame_ri,
  trivial, Cert.MixClaim.algebraic, trivial, Cert.ChClaim.algebraic⟩

end Cert.Proof
